-- ==== Defs.lean ====
def Pre_Kernel [hPre_ids_in_vocab : Cert.Pre_ids_in_vocab.Facts] (m : (ℓ : Loc Cert.Kernel.nD Cert.Kernel.τ Cert.Kernel.sig) → Buf (Elt Bits) ℓ) : Prop :=
  ∀ c : Dev Cert.Kernel.nD,
    (Cert.Pre_ids_in_vocab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_vocab : Cert.Pre_ids_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_vocab [hPre_ids_in_vocab : Cert.Pre_ids_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_in_vocab : Cert.Pre_ids_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_vocab [hReferenceIdeal : Cert.ReferenceIdeal.Facts] [hPre_ids_in_vocab : Cert.Pre_ids_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_vocab : Cert.Pre_ids_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_vocab : Cert.Pre_ids_in_vocab.Facts),
    quiescent_Kernel (hKernel := hKernel) (hPre_ids_in_vocab := hPre_ids_in_vocab)
    ∧ quiescent_KernelIdeal (hKernelIdeal := hKernelIdeal) (hPre_ids_in_vocab := hPre_ids_in_vocab)
    ∧ quiescent_ReferenceIdeal (hReferenceIdeal := hReferenceIdeal)
    ∧ quiescent_ReferenceIdeal_pre_ids_in_vocab (hReferenceIdeal := hReferenceIdeal) (hPre_ids_in_vocab := hPre_ids_in_vocab)
    ∧ preserves_Kernel_KernelIdeal
    ∧ algebraic_KernelIdeal_ReferenceIdeal (hKernelIdeal := hKernelIdeal) (hReferenceIdeal := hReferenceIdeal) (hPre_ids_in_vocab := hPre_ids_in_vocab)
-- ==== Pre_ids_in_vocab.lean ====
abbrev S4096x200 : Shape := ⟨2, ![4096, 200]⟩
abbrev S32x8 : Shape := ⟨2, ![32, 8]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S32x8 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 32#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S32x8 : Shape := ⟨2, ![32, 8]⟩
abbrev S819200 : Shape := ⟨1, ![819200]⟩
abbrev S256 : Shape := ⟨1, ![256]⟩
abbrev S6553600 : Shape := ⟨1, ![6553600]⟩
abbrev S3200 : Shape := ⟨1, ![3200]⟩
abbrev S25600 : Shape := ⟨1, ![25600]⟩
abbrev S_ : Shape := ⟨0, ![]⟩
abbrev S16 : Shape := ⟨1, ![16]⟩
abbrev S4096x200x8 : Shape := ⟨3, ![4096, 200, 8]⟩

abbrev nBuf : Table → Nat
  | .hbm => 6
  | .local .scVector .vmem => 3
  | _ => 0

abbrev bufTy : (tb : Table) → Fin (nBuf tb) → BufTy
  | .hbm, ⟨0, _⟩ => ⟨S4096x200, .i32⟩
  | .hbm, ⟨1, _⟩ => ⟨S32x8, .f32⟩
  | .hbm, ⟨2, _⟩ => ⟨S819200, .i32⟩
  | .hbm, ⟨3, _⟩ => ⟨S256, .f32⟩
  | .hbm, ⟨4, _⟩ => ⟨S6553600, .f32⟩
  | .hbm, ⟨5, _⟩ => ⟨S4096x200x8, .f32⟩
  | .local .scVector .vmem, ⟨0, _⟩ => ⟨S256, .f32⟩
  | .local .scVector .vmem, ⟨1, _⟩ => ⟨S3200, .i32⟩
  | .local .scVector .vmem, ⟨2, _⟩ => ⟨S25600, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c8_i32_3 : BitVec 32 := 8#32
  let v22 : BitVec 32 := Scalar.addi c0_i32_2 c8_i32_3
  let c1_i32_4 : BitVec 32 := 1#32
  ⟨c0_i32_2, v22, c1_i32_4⟩
def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_2 : BitVec 32 := 0#32
  let c1_i32_4 : BitVec 32 := 1#32
  let arg8 : BitVec 32 := Scf.iv c0_i32_2 c1_i32_4 k0_t1
  let c3200_i32 : BitVec 32 := 3200#32
  let v23 : BitVec 32 := Scalar.muli arg8 c3200_i32
  let v24 : BitVec 32 := Scalar.addi v2 v23
  v24
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_2 : BitVec 32 := 0#32
  let c1_i32_4 : BitVec 32 := 1#32
  let arg8 : BitVec 32 := Scf.iv c0_i32_2 c1_i32_4 k0_t1
  let c3200_i32 : BitVec 32 := 3200#32
  let v23 : BitVec 32 := Scalar.muli arg8 c3200_i32
  let v24 : BitVec 32 := Scalar.addi v2 v23
  let v25 : BitVec 32 := v24
  ![v25.toNat]
@[reducible] def k0_t2_loop : Scf.Loop 32 :=
  let c0_i32_7 : BitVec 32 := 0#32
  let c200_i32 : BitVec 32 := 200#32
  let v26 : BitVec 32 := Scalar.addi c0_i32_7 c200_i32
  let c1_i32_8 : BitVec 32 := 1#32
  ⟨c0_i32_7, v26, c1_i32_8⟩
def k0_mult2 (k0_t2 : Fin k0_t2_loop.trips) : BitVec 32 :=
  let c0_i32_7 : BitVec 32 := 0#32
  let c1_i32_8 : BitVec 32 := 1#32
  let arg9 : BitVec 32 := Scf.iv c0_i32_7 c1_i32_8 k0_t2
  let c16_i32 : BitVec 32 := 16#32
  let v28 : BitVec 32 := Scalar.muli arg9 c16_i32
  v28
def k0_off2 (k0_t2 : Fin k0_t2_loop.trips) : Fin 1 → Nat :=
  let c0_i32_7 : BitVec 32 := 0#32
  let c1_i32_8 : BitVec 32 := 1#32
  let arg9 : BitVec 32 := Scf.iv c0_i32_7 c1_i32_8 k0_t2
  let c16_i32 : BitVec 32 := 16#32
  let v28 : BitVec 32 := Scalar.muli arg9 c16_i32
  let v29 : BitVec 32 := v28
  let v30 : Index := Scalar.indexCast v29
  ![v30.toNat]

def k0_chk1 (v36 : IVec S16 32) : Prop :=
  (∀ a x, ((![v36] : Fin 1 → IVec S16 32) a x).toNat < S256.size a)
theorem k0_idx1_inb : ∀ (v36 : IVec S16 32) (k0_hw1 : k0_chk1 v36), ∀ a x, ((![v36] : Fin 1 → IVec S16 32) a x).toNat < S256.size a := fun v36 k0_hw1 => k0_hw1

def k0_chk2 (v39 : IVec S16 32) : Prop :=
  (∀ a x, ((![v39] : Fin 1 → IVec S16 32) a x).toNat < S25600.size a)
theorem k0_idx2_inb : ∀ (v39 : IVec S16 32) (k0_hw2 : k0_chk2 v39), ∀ a x, ((![v39] : Fin 1 → IVec S16 32) a x).toNat < S25600.size a := fun v39 k0_hw2 => k0_hw2

def k0_chk3 (v41 : IVec S16 32) : Prop :=
  (∀ a x, ((![v41] : Fin 1 → IVec S16 32) a x).toNat < S256.size a)
theorem k0_idx3_inb : ∀ (v41 : IVec S16 32) (k0_hw3 : k0_chk3 v41), ∀ a x, ((![v41] : Fin 1 → IVec S16 32) a x).toNat < S256.size a := fun v41 k0_hw3 => k0_hw3

def k0_chk4 (v44 : IVec S16 32) : Prop :=
  (∀ a x, ((![v44] : Fin 1 → IVec S16 32) a x).toNat < S25600.size a)
theorem k0_idx4_inb : ∀ (v44 : IVec S16 32) (k0_hw4 : k0_chk4 v44), ∀ a x, ((![v44] : Fin 1 → IVec S16 32) a x).toNat < S25600.size a := fun v44 k0_hw4 => k0_hw4

def k0_chk5 (v46 : IVec S16 32) : Prop :=
  (∀ a x, ((![v46] : Fin 1 → IVec S16 32) a x).toNat < S256.size a)
theorem k0_idx5_inb : ∀ (v46 : IVec S16 32) (k0_hw5 : k0_chk5 v46), ∀ a x, ((![v46] : Fin 1 → IVec S16 32) a x).toNat < S256.size a := fun v46 k0_hw5 => k0_hw5

def k0_chk6 (v49 : IVec S16 32) : Prop :=
  (∀ a x, ((![v49] : Fin 1 → IVec S16 32) a x).toNat < S25600.size a)
theorem k0_idx6_inb : ∀ (v49 : IVec S16 32) (k0_hw6 : k0_chk6 v49), ∀ a x, ((![v49] : Fin 1 → IVec S16 32) a x).toNat < S25600.size a := fun v49 k0_hw6 => k0_hw6

def k0_chk7 (v51 : IVec S16 32) : Prop :=
  (∀ a x, ((![v51] : Fin 1 → IVec S16 32) a x).toNat < S256.size a)
theorem k0_idx7_inb : ∀ (v51 : IVec S16 32) (k0_hw7 : k0_chk7 v51), ∀ a x, ((![v51] : Fin 1 → IVec S16 32) a x).toNat < S256.size a := fun v51 k0_hw7 => k0_hw7

def k0_chk8 (v54 : IVec S16 32) : Prop :=
  (∀ a x, ((![v54] : Fin 1 → IVec S16 32) a x).toNat < S25600.size a)
theorem k0_idx8_inb : ∀ (v54 : IVec S16 32) (k0_hw8 : k0_chk8 v54), ∀ a x, ((![v54] : Fin 1 → IVec S16 32) a x).toNat < S25600.size a := fun v54 k0_hw8 => k0_hw8

def k0_chk9 (v56 : IVec S16 32) : Prop :=
  (∀ a x, ((![v56] : Fin 1 → IVec S16 32) a x).toNat < S256.size a)
theorem k0_idx9_inb : ∀ (v56 : IVec S16 32) (k0_hw9 : k0_chk9 v56), ∀ a x, ((![v56] : Fin 1 → IVec S16 32) a x).toNat < S256.size a := fun v56 k0_hw9 => k0_hw9

def k0_chk10 (v59 : IVec S16 32) : Prop :=
  (∀ a x, ((![v59] : Fin 1 → IVec S16 32) a x).toNat < S25600.size a)
theorem k0_idx10_inb : ∀ (v59 : IVec S16 32) (k0_hw10 : k0_chk10 v59), ∀ a x, ((![v59] : Fin 1 → IVec S16 32) a x).toNat < S25600.size a := fun v59 k0_hw10 => k0_hw10

def k0_chk11 (v61 : IVec S16 32) : Prop :=
  (∀ a x, ((![v61] : Fin 1 → IVec S16 32) a x).toNat < S256.size a)
theorem k0_idx11_inb : ∀ (v61 : IVec S16 32) (k0_hw11 : k0_chk11 v61), ∀ a x, ((![v61] : Fin 1 → IVec S16 32) a x).toNat < S256.size a := fun v61 k0_hw11 => k0_hw11

def k0_chk12 (v64 : IVec S16 32) : Prop :=
  (∀ a x, ((![v64] : Fin 1 → IVec S16 32) a x).toNat < S25600.size a)
theorem k0_idx12_inb : ∀ (v64 : IVec S16 32) (k0_hw12 : k0_chk12 v64), ∀ a x, ((![v64] : Fin 1 → IVec S16 32) a x).toNat < S25600.size a := fun v64 k0_hw12 => k0_hw12

def k0_chk13 (v66 : IVec S16 32) : Prop :=
  (∀ a x, ((![v66] : Fin 1 → IVec S16 32) a x).toNat < S256.size a)
theorem k0_idx13_inb : ∀ (v66 : IVec S16 32) (k0_hw13 : k0_chk13 v66), ∀ a x, ((![v66] : Fin 1 → IVec S16 32) a x).toNat < S256.size a := fun v66 k0_hw13 => k0_hw13

def k0_chk14 (v69 : IVec S16 32) : Prop :=
  (∀ a x, ((![v69] : Fin 1 → IVec S16 32) a x).toNat < S25600.size a)
theorem k0_idx14_inb : ∀ (v69 : IVec S16 32) (k0_hw14 : k0_chk14 v69), ∀ a x, ((![v69] : Fin 1 → IVec S16 32) a x).toNat < S25600.size a := fun v69 k0_hw14 => k0_hw14

def k0_chk15 (v71 : IVec S16 32) : Prop :=
  (∀ a x, ((![v71] : Fin 1 → IVec S16 32) a x).toNat < S256.size a)
theorem k0_idx15_inb : ∀ (v71 : IVec S16 32) (k0_hw15 : k0_chk15 v71), ∀ a x, ((![v71] : Fin 1 → IVec S16 32) a x).toNat < S256.size a := fun v71 k0_hw15 => k0_hw15

def k0_chk16 (v74 : IVec S16 32) : Prop :=
  (∀ a x, ((![v74] : Fin 1 → IVec S16 32) a x).toNat < S25600.size a)
theorem k0_idx16_inb : ∀ (v74 : IVec S16 32) (k0_hw16 : k0_chk16 v74), ∀ a x, ((![v74] : Fin 1 → IVec S16 32) a x).toNat < S25600.size a := fun v74 k0_hw16 => k0_hw16
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_2 : BitVec 32 := 0#32
  let c1_i32_4 : BitVec 32 := 1#32
  let arg8 : BitVec 32 := Scf.iv c0_i32_2 c1_i32_4 k0_t1
  let c3200_i32 : BitVec 32 := 3200#32
  let v23 : BitVec 32 := Scalar.muli arg8 c3200_i32
  let v24 : BitVec 32 := Scalar.addi v2 v23
  let v25 : BitVec 32 := v24
  let c8_i32_10 : BitVec 32 := 8#32
  let v27 : BitVec 32 := Scalar.muli v25 c8_i32_10
  ![v27.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S32x8 : Shape := ⟨2, ![32, 8]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x8 : Shape := ⟨3, ![4096, 200, 8]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S32x8, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x8, .f32⟩
  | .hbm, ⟨21, _⟩ => ⟨S4096x200x8, .i1⟩
  | .hbm, ⟨22, _⟩ => ⟨S_, .f32⟩
  | .hbm, ⟨23, _⟩ => ⟨S4096x200x8, .f32⟩
  | .hbm, ⟨24, _⟩ => ⟨S4096x200x8, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Values.lean ====
/-
  The arithmetic of the lookup, with no program in it: what the looked-up rows are (`look`), how one scatter of sixteen
  lanes extends the part of a scratch already holding them (`Filled`), and how a chunk's rows are the whole result's.
  Stated over shapes written out, so that the modules of both printed programs read it.
-/
module

public import Idealize.ShloMosaic.Lib.SparseCore.Ops

@[expose] public section

noncomputable section

namespace Cert.Proof.Look

open Idealize.ShloMosaic Idealize.SL.Sem

variable {F : FTy → Type} [FloatOps F]

/-- The index `n` of a vector of extent `N`, taken modulo the extent so that it always names an element. -/
def at1 (N : ℕ) [NeZero N] (n : ℕ) : (⟨1, ![N]⟩ : Shape).Idx := Shape.ofLane (d := ![N]) ⟨n % N, Nat.mod_lt _ (NeZero.pos N)⟩

theorem at1_val (N : ℕ) [NeZero N] (n : ℕ) : (at1 N n 0).val = n % N := rfl

/-- Two indices of a vector at one position are one index. -/
theorem idx1_ext {N : ℕ} {x y : (⟨1, ![N]⟩ : Shape).Idx} (h : (x 0).val = (y 0).val) : x = y := by
  funext a
  obtain rfl : a = 0 := Subsingleton.elim _ _
  exact Fin.ext h

/-- An index is `at1` of its position. -/
theorem eq_at1 {N : ℕ} [NeZero N] (x : (⟨1, ![N]⟩ : Shape).Idx) {n : ℕ} (h : (x 0).val = n) : x = at1 N n :=
  idx1_ext (by rw [at1_val, ← h]; exact (Nat.mod_eq_of_lt (x 0).isLt).symm)

/-- The looked-up rows: from a table of 32 rows of eight words and `n` row numbers (both flat), the `n` rows, flat: word
    `y` is word `y % 8` of the row that number `y / 8` names. -/
def look (n N : ℕ) [NeZero n] (tab : Vec F ⟨1, ![256]⟩ .f32) (ids : IVec ⟨1, ![n]⟩ 32) : Vec F ⟨1, ![N]⟩ .f32 :=
  fun y => tab (at1 256 ((ids (at1 n ((y 0).val / 8))).toNat * 8 + (y 0).val % 8))

/-- The elements the predicate `P` names hold `g`'s values. -/
def Filled {N : ℕ} (g : Vec F ⟨1, ![N]⟩ .f32) (P : ℕ → Prop) (f : Vec F ⟨1, ![N]⟩ .f32) : Prop :=
  ∀ y, P (y 0).val → f y = g y

/-- What is left of a scatter at an element: `w`, if every lane naming the element stores `w` and either a lane does or
    `w` was there before. -/
theorem scatter_at {s : Shape} {e : EltTy} {d : Fin 1 → ℕ} (f : Vec F s e) (idxs : Fin s.rank → IVec ⟨1, d⟩ 32)
    (v : Vec F ⟨1, d⟩ e) (h : ∀ a x, (idxs a x).toNat < s.size a) (j : s.Idx) (w : Elt F e)
    (hw : ∀ k, (∀ a, (j a).val = (idxs a (Shape.ofLane k)).toNat) → v (Shape.ofLane k) = w)
    (hj : f j = w ∨ ∃ k, ∀ a, (j a).val = (idxs a (Shape.ofLane k)).toNat) :
    storeIdx f idxs v (fun _ => 1#1) false h j = w := by
  have key : ∀ (l : List (Fin (d 0))) (f : Vec F s e),
      (f j = w ∨ ∃ k ∈ l, ∀ a, (j a).val = (idxs a (Shape.ofLane k)).toNat) →
      l.foldl (fun g k => fun i => if ∀ a, (i a).val = (idxs a (Shape.ofLane k)).toNat then v (Shape.ofLane k) else g i) f j = w := by
    intro l
    induction l with
    | nil =>
      rintro f (h | ⟨_, h, _⟩)
      · exact h
      · cases h
    | cons k l ih =>
      intro f hf
      refine ih _ ?_
      by_cases hk : ∀ a, (j a).val = (idxs a (Shape.ofLane k)).toNat
      · left; dsimp only; rw [if_pos hk]; exact hw k hk
      · rcases hf with hf | ⟨k', hk', e⟩
        · left; dsimp only; rw [if_neg hk]; exact hf
        · rcases List.mem_cons.mp hk' with rfl | hk'
          · exact absurd e hk
          · exact .inr ⟨k', hk', e⟩
  exact key (List.finRange (d 0)) f (hj.imp_right fun ⟨k, hk⟩ => ⟨k, List.mem_finRange k, hk⟩)

/-- The elements a trip's first `j` scatters have filled: those of the earlier groups, and of group `g` the words
    numbered below `j` in each row. -/
def Upto (g j y : ℕ) : Prop := y < 128 * g ∨ (y < 128 * (g + 1) ∧ y % 8 < j)

theorem upto_zero {g y : ℕ} : Upto g 0 y ↔ y < 128 * g := by unfold Upto; omega
theorem upto_eight {g y : ℕ} : Upto g 8 y ↔ y < 128 * (g + 1) := by unfold Upto; omega

/-- A row number times eight plus a word number, as the program computes it. -/
theorem gather_toNat {v : BitVec 32} (hv : v.toNat < 32) {j : ℕ} (hj : j < 8) :
    (v * 8#32 + BitVec.ofNat 32 j).toNat = v.toNat * 8 + j := by
  rw [BitVec.toNat_add, BitVec.toNat_mul, BitVec.toNat_ofNat, BitVec.toNat_ofNat]; omega

/-- The place of lane `x`'s word `j` in group `g`, as the program computes it. -/
theorem scatter_toNat {x g j : ℕ} (hx : x < 16) (hg : g < 200) (hj : j < 8) :
    (BitVec.ofNat 32 x * 8#32 + BitVec.ofNat 32 j + BitVec.ofNat 32 g * 128#32).toNat = 128 * g + 8 * x + j := by
  simp only [BitVec.toNat_add, BitVec.toNat_mul, BitVec.toNat_ofNat]; omega

/-- One gather and scatter: word `j` of the sixteen rows of group `g`. With the row numbers `v` those at `16 g` on, the
    gathered words scattered extend what is filled from the words below `j` to those below `j + 1`. -/
theorem filled_step {tab : Vec F ⟨1, ![256]⟩ .f32} {ids : IVec ⟨1, ![3200]⟩ 32} {f : Vec F ⟨1, ![25600]⟩ .f32}
    {g j : ℕ} (hg : g < 200) (hj : j < 8) {v u w : IVec ⟨1, ![16]⟩ 32}
    (hv : ∀ x, v x = ids (at1 3200 (16 * g + (x 0).val))) (hlt : ∀ x, (v x).toNat < 32)
    (hu : ∀ x, u x = v x * 8#32 + BitVec.ofNat 32 j)
    (hw : ∀ x, w x = BitVec.ofNat 32 (x 0).val * 8#32 + BitVec.ofNat 32 j + BitVec.ofNat 32 g * 128#32)
    (h1 : ∀ a x, ((![u] : Fin 1 → IVec ⟨1, ![16]⟩ 32) a x).toNat < (⟨1, ![256]⟩ : Shape).size a)
    (h2 : ∀ a x, ((![w] : Fin 1 → IVec ⟨1, ![16]⟩ 32) a x).toNat < (⟨1, ![25600]⟩ : Shape).size a)
    (hf : Filled (look 3200 25600 tab ids) (Upto g j) f) :
    Filled (look 3200 25600 tab ids) (Upto g (j + 1))
      (storeIdx f ![w] (loadIdx tab ![u] h1) (fun _ => 1#1) false h2) := by
  have hwn : ∀ x : (⟨1, ![16]⟩ : Shape).Idx, (w x).toNat = 128 * g + 8 * (x 0).val + j := fun x => by
    rw [hw]; exact scatter_toNat (x 0).isLt hg hj
  intro y hy
  refine scatter_at f _ _ h2 y _ ?_ ?_
  · intro k hk
    have hk0 : (y 0).val = 128 * g + 8 * k.val + j := (hk 0).trans (hwn _)
    have hk16 : k.val < 16 := k.isLt
    unfold loadIdx look
    refine congrArg tab (eq_at1 _ ?_)
    show (u (Shape.ofLane k)).toNat = _
    rw [hu, gather_toNat (hlt _) hj, hv]
    show (ids (at1 3200 (16 * g + k.val))).toNat * 8 + j = _
    rw [hk0, show (128 * g + 8 * k.val + j) / 8 = 16 * g + k.val by omega, show (128 * g + 8 * k.val + j) % 8 = j by omega]
  · by_cases hj' : Upto g j (y 0).val
    · exact .inl (hf y hj')
    · refine .inr ⟨⟨((y 0).val - 128 * g) / 8, ?_⟩, fun a => ?_⟩
      · show _ < 16
        unfold Upto at hy hj'; omega
      · obtain rfl : a = 0 := Subsingleton.elim _ _
        refine Eq.trans ?_ (hwn _).symm
        show (y 0).val = 128 * g + 8 * (((y 0).val - 128 * g) / 8) + j
        unfold Upto at hy hj'; omega

/-- The whole result's rows read at a chunk are the rows looked up by the chunk's row numbers. -/
theorem look_chunk {tab : Vec F ⟨1, ![256]⟩ .f32} {ids : IVec ⟨1, ![819200]⟩ 32} {ids' : IVec ⟨1, ![3200]⟩ 32} {o : ℕ}
    (ho : o + 3200 ≤ 819200) (hids : ∀ x, ids' x = ids (at1 819200 (o + (x 0).val)))
    (y : (⟨1, ![25600]⟩ : Shape).Idx) (z : (⟨1, ![6553600]⟩ : Shape).Idx) (hz : (z 0).val = 8 * o + (y 0).val) :
    look 3200 25600 tab ids' y = look 819200 6553600 tab ids z := by
  have hy : (y 0).val < 25600 := (y 0).isLt
  unfold look
  rw [hids, hz]
  refine congrArg tab (congrArg (at1 256) ?_)
  rw [at1_val, show (8 * o + (y 0).val) / 8 = o + (y 0).val / 8 by omega, show (8 * o + (y 0).val) % 8 = (y 0).val % 8 by omega,
    Nat.mod_eq_of_lt (show (y 0).val / 8 < 3200 by omega)]

end Cert.Proof.Look

end
-- ==== Proof.Ideal.Setup.lean ====
/-
  The printed kernel as the launch theorem sees it, and what its one SparseCore call hands round: the flat row numbers and
  the flat table read by every vector subcore at a share of its own, the flat result dealt in 256 chunks of 25600 words,
  eight consecutive ones to each of the 32 vector subcores.
-/
module

public import proofs.«01_k».proof.Proof.Values
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Ideal

open Cert.KernelIdeal Cert.KernelIdeal.Gen Cert.Proof.Look

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch theorem's configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The two arguments, the flat row numbers, the flat table, the flat result and the result, of device `d`. -/
abbrev argILoc (d : Dev nD) : Loc nD τ sig := (SparseCore.T d).loc main_arg0
abbrev argTLoc (d : Dev nD) : Loc nD τ sig := (SparseCore.T d).loc main_arg1
abbrev idsLoc (d : Dev nD) : Loc nD τ sig := (SparseCore.T d).loc main_v0
abbrev tabLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

variable [FloatOps F]

/-- The row numbers and the table in row-major order: what the first two reshapes leave. -/
def idsFlat (d : Dev nD) : IVec S819200 32 := shapeCast S819200 (m (argILoc d)) shapeCasts_S4096x200_S819200
def tabFlat (d : Dev nD) : Vec F S256 .f32 := shapeCast S256 (m (argTLoc d)) shapeCasts_S32x8_S256
/-- The looked-up rows, flat, and at the result's shape. -/
def outFlat (d : Dev nD) : Vec F S6553600 .f32 := look 819200 6553600 (tabFlat m d) (idsFlat m d)
def resVal (d : Dev nD) : Vec F S4096x200x8 .f32 := shapeCast S4096x200x8 (outFlat m d) shapeCasts_S6553600_S4096x200x8

/-- What the proof asks of the launch memory: every row number is below 32. -/
def PreOK : Prop := ∀ (d : Dev nD) (x : S819200.Idx), (idsFlat m d x).toNat < 32

/-- A subcore's memrefs. -/
abbrev iV : Memref sig .scVector .hbm S819200 .i32 := Memref.whole main_v0_scv
abbrev tV : Memref sig .scVector .hbm S256 .f32 := Memref.whole main_v1_scv
abbrev oV : Memref sig .scVector .hbm S6553600 .f32 := Memref.whole main_v2_scv
abbrev sT : Memref sig .scVector .vmem S256 .f32 := Memref.whole cc0_scratch0
abbrev sI : Memref sig .scVector .vmem S3200 .i32 := Memref.whole cc0_scratch1
abbrev sR : Memref sig .scVector .vmem S25600 .f32 := Memref.whole cc0_scratch2

/-! ## The shares and the chunks -/

/-- Core `c`'s share of an array every subcore reads, and the share of its subcore `i`. -/
def coreShare (c : ℕ) : PosShare TreeShare := Transfers.dealShare fullShare 2 c
def tileShare (c i : ℕ) : PosShare TreeShare := Transfers.dealShare (coreShare c) 16 i

omit [FloatOps F] in
/-- A points-to at `q` is the points-tos at the `n` shares `q` is dealt into. -/
theorem pts_deal {ℓ : Loc nD τ sig} {A : Finset (Idx ℓ)} {f : Buf (Elt F) ℓ} (q : PosShare TreeShare) (n : ℕ) (hn : 0 < n) :
    (ℓ ↦[A]{q} f : sProp 𝕄) = bigSep Finset.univ fun i : Fin n => ℓ ↦[A]{Transfers.dealShare q n i.val} f := by
  haveI : Nonempty (Fin n) := ⟨⟨0, hn⟩⟩
  rw [Transfers.pointsTo_deal (Finset.univ : Finset (Fin n)) Finset.univ_nonempty q]
  refine bigSep_congr fun i _ => ?_
  unfold Transfers.dealOf
  rw [Finset.card_univ, Fintype.card_fin, show (Finset.univ.filter fun x : Fin n => x < i) = Finset.Iio i by ext x; simp, Fin.card_Iio]

/-- Chunk `t` of subcore `i` of core `c`, by its number among the 256. -/
def chunk (c i t : ℕ) : ℕ := 16 * i + 8 * c + t

/-- The words of the flat result that chunk `n` holds. -/
def chunkSet (n : ℕ) : Finset S6553600.Idx := Finset.univ.filter fun y => 25600 * n ≤ (y 0).val ∧ (y 0).val < 25600 * (n + 1)

theorem mem_chunkSet {n : ℕ} {y : S6553600.Idx} : y ∈ chunkSet n ↔ 25600 * n ≤ (y 0).val ∧ (y 0).val < 25600 * (n + 1) := by
  unfold chunkSet; rw [Finset.mem_filter]; exact and_iff_right (Finset.mem_univ y)

/-- What a subcore is handed, and gives back: its shares of the row numbers and of the table, and its eight chunks of the
    result, chunk `t` at `g t`. -/
def forTile (d : Dev nD) (c i : ℕ) (g : ℕ → Buf (Elt F) (outLoc d)) : sProp 𝕄 :=
  iprop((idsLoc d ↦{tileShare c i} (idsFlat m d : Buf (Elt F) (idsLoc d))) ∗ (tabLoc d ↦{tileShare c i} (tabFlat m d : Buf (Elt F) (tabLoc d)))
    ∗ bigSep Finset.univ fun t : Fin 8 => outLoc d ↦[chunkSet (chunk c i t.val)]{fullShare} g t.val)

/-- What a core is handed, and gives back: its sixteen subcores' parts. -/
def forCore (d : Dev nD) (c : ℕ) (g : ℕ → Buf (Elt F) (outLoc d)) : sProp 𝕄 :=
  bigSep Finset.univ fun i : Fin 16 => forTile m d c i.val g

instance forTile_storable (d : Dev nD) (c i : ℕ) (g : ℕ → Buf (Elt F) (outLoc d)) :
    BI.Storable (upEmb : UEmb _ 𝕄) (forTile m d c i g) := by unfold forTile; infer_instance
instance forCore_storable (d : Dev nD) (c : ℕ) (g : ℕ → Buf (Elt F) (outLoc d)) :
    BI.Storable (upEmb : UEmb _ 𝕄) (forCore m d c g) := by unfold forCore; infer_instance

/-- The flat result before the call and after it. -/
abbrev before (d : Dev nD) : ℕ → Buf (Elt F) (outLoc d) := fun _ => m (outLoc d)
abbrev after (d : Dev nD) : ℕ → Buf (Elt F) (outLoc d) := fun _ => (outFlat m d : Buf (Elt F) (outLoc d))

/-- The call's payloads: each subcore's part, the result's chunks as the launch left them on the way in and at the
    looked-up rows on the way out. -/
def P : (K (F := F)).Pay (nD := nD) (Val := Elt F) (Name := ℕ) (U := UU) where
  st := fun _ d c => forCore m d c.val (before m d)
  dn := fun _ d c => forCore m d c.val (after m d)
  go := fun _ d c i => forTile m d c.val i.val (before m d)
  td := fun _ d c i => forTile m d c.val i.val (after m d)
  x := fun _ _ => iprop(emp)

instance P_storable : (P (F := F) m).IsStorable where
  st _ d c := by unfold P; infer_instance
  dn _ d c := by unfold P; infer_instance
  go _ d c i := by unfold P; infer_instance
  td _ d c i := by unfold P; infer_instance

end Cert.Proof.Ideal

end
-- ==== Proof.Ideal.Word.lean ====
/-
  One group of sixteen row numbers: the trip of the inner loop, which loads them and, for each of the eight columns,
  gathers a word for each from the subcore's table and scatters the words to the rows' places.
-/
module

public import proofs.«01_k».proof.Proof.Ideal.Setup

@[expose] public section

noncomputable section

namespace Cert.Proof.Ideal

open Cert.KernelIdeal Cert.KernelIdeal.Gen Cert.Proof.Look

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The thread of the vector subcore at coordinates `L`. -/
abbrev thr (d : Dev nD) (L : grid0.Coords) : Thread nD τ := V d (cV L) (jV L)

section Trip

variable (d : Dev nD) (L : grid0.Coords) (tab : Vec F S256 .f32) (ids : IVec S3200 32)

/-- The subcore's table whole, and its rows right at the words that `P` holds of. -/
def looked (P : ℕ → Prop) : sProp 𝕄 :=
  iprop((sT.view.loc (thr d L) ↦{fullShare} (tab : Buf (Elt F) (sT.view.loc (thr d L))))
    ∗ ∃ f : Vec F S25600 .f32, ⌜Filled (look 3200 25600 tab ids) P f⌝
        ∗ (sR.view.loc (thr d L) ↦{fullShare} (f : Buf (Elt F) (sR.view.loc (thr d L)))))

omit [FloatOps F] in
/-- The subcore's rows as the whole-rectangle access names them. -/
theorem rowsAccess (f : Buf (Elt F) (sR.view.loc (thr d L))) :
    ((sR.access (.whole S25600)).loc (thr d L) ↦[(sR.access (.whole S25600)).set]{fullShare} f : sProp 𝕄) = sR.view.loc (thr d L) ↦{fullShare} f := by
  rw [show (sR.access (.whole S25600)).set = Finset.univ from Memref.set_access_whole (cc0_scratch2 : Ref sig .scVector)]

omit [FloatOps F] in
/-- A write of the whole rows leaves what was written. -/
theorem rowsWritten (f : Buf (Elt F) (sR.view.loc (thr d L))) (x : Vec F S25600 .f32) :
    ((sR.access (.whole S25600)).loc (thr d L) ↦[(sR.access (.whole S25600)).set]{fullShare}
        ((sR.access (.whole S25600)).write (Elt F) f x Finset.univ) : sProp 𝕄)
      = sR.view.loc (thr d L) ↦{fullShare} (x : Buf (Elt F) (sR.view.loc (thr d L))) := by
  rw [rowsAccess, show (sR.access (.whole S25600)).write (Elt F) f x Finset.univ = x from
    Memref.write_access_whole_univ (Elt F) (cc0_scratch2 : Ref sig .scVector) f x]

/-- One column of one group, its gather checked: the gather reads the table's words, the scatter's check passes and the
    scatter puts them at their places; so the rows are right one column further. -/
theorem wp_put {g j : ℕ} {v : IVec S16 32} (hg : g < 200) (hj : j < 8)
    (hv : ∀ x, v x = ids (at1 3200 (16 * g + (x 0).val))) (hlt : ∀ x, (v x).toNat < 32)
    {u w : IVec S16 32} {C2 : Prop} {d2 : Decidable C2}
    (hC2 : (∀ a x, ((![w] : Fin 1 → IVec S16 32) a x).toNat < S25600.size a) → C2)
    {h1 : ∀ a x, ((![u] : Fin 1 → IVec S16 32) a x).toNat < S256.size a}
    {i2 : PLift C2 → ∀ a x, ((![w] : Fin 1 → IVec S16 32) a x).toNat < S25600.size a}
    (hu : ∀ x, u x = v x * 8#32 + BitVec.ofNat 32 j)
    (hw : ∀ x, w x = BitVec.ofNat 32 (x 0).val * 8#32 + BitVec.ofNat 32 j + BitVec.ofNat 32 g * 128#32)
    {hl : sT.view.Loads} {hs : (sR.access (.whole S25600)).Stores Finset.univ} {α : Type}
    {k : PUnit → Prog (TpuEff nD τ sig (Elt F) Λ₀ (.scVector (cV L) (jV L))) α} {Q : α → sProp 𝕄} :
    looked d L tab ids (Upto g j)
      ⊢ iprop((looked d L tab ids (Upto g (j + 1)) -∗ wp frame (wpE (defs₀ (F := F)) 𝒱₀ (thr d L) none) Set.univ (k ⟨⟩) Q)
        -∗ wp frame (wpE (defs₀ (F := F)) 𝒱₀ (thr d L) none) Set.univ
            (SparseCore.vectorLoadIdx sT ![u] h1 hl >>= fun x =>
              .op (.assume C2 d2) fun h2 => (SparseCore.vectorStoreIdx sR ![w] x (fun _ => 1#1) false (i2 h2) hs >>= k)) Q) := by
  have h2 : ∀ a x, ((![w] : Fin 1 → IVec S16 32) a x).toNat < S25600.size a := by
    intro a x
    obtain rfl : a = 0 := Subsingleton.elim _ _
    show (w x).toNat < 25600
    have hx : (x 0).val < 16 := (x 0).isLt
    rw [hw, scatter_toNat hx hg hj]; omega
  unfold looked
  iintro ⟨Ht, %f, %hf, Hr⟩ Hk
  iapply (SparseCore.wp_vectorLoadIdx 𝒱₀ (thr d L) none Set.univ (base := sT) (S := Finset.univ) (q := fullShare) (Finset.subset_univ _)) $$ Ht
  iintro Ht
  rw [wp_assume_of _ _ _ _ (hC2 h2)]
  ihave Hr' := (Entails.of_eq (rowsAccess (F := F) d L f).symm) $$ Hr
  iapply (SparseCore.wp_vectorStoreIdx 𝒱₀ (thr d L) none Set.univ (base := sR)) $$ Hr'
  iintro Hr
  rw [show (sT.access (.whole S256)).read (Elt F) tab = tab from Memref.read_access_whole (Elt F) (cc0_scratch0 : Ref sig .scVector) tab,
    show (sR.access (.whole S25600)).read (Elt F) f = f from Memref.read_access_whole (Elt F) (cc0_scratch2 : Ref sig .scVector) f]
  ihave Hr' := (Entails.of_eq (rowsWritten (F := F) d L f (storeIdx f ![w] (loadIdx tab ![u] h1) (fun _ => 1#1) false h2))) $$ Hr
  iapply Hk
  isplitl [Ht]; · iexact Ht
  iexists (storeIdx f ![w] (loadIdx tab ![u] h1) (fun _ => 1#1) false h2); isplitr
  · ipureintro; exact filled_step hg hj hv hlt hu hw _ _ hf
  · iexact Hr'

/-- A gather's places are inside the table. -/
theorem gather_inb {j : ℕ} {v u : IVec S16 32} (hj : j < 8) (hlt : ∀ x, (v x).toNat < 32) (hu : ∀ x, u x = v x * 8#32 + BitVec.ofNat 32 j) :
    ∀ a x, ((![u] : Fin 1 → IVec S16 32) a x).toNat < S256.size a := by
  intro a x
  obtain rfl : a = 0 := Subsingleton.elim _ _
  show (u x).toNat < 256
  rw [hu, gather_toNat (hlt x) hj]; have := hlt x; omega

/-- One column of one group, the gather's check included. -/
theorem wp_word {g j : ℕ} {v : IVec S16 32} (hg : g < 200) (hj : j < 8)
    (hv : ∀ x, v x = ids (at1 3200 (16 * g + (x 0).val))) (hlt : ∀ x, (v x).toNat < 32)
    {u w : IVec S16 32} {C1 C2 : Prop} {d1 : Decidable C1} {d2 : Decidable C2}
    (hC1 : (∀ a x, ((![u] : Fin 1 → IVec S16 32) a x).toNat < S256.size a) → C1)
    (hC2 : (∀ a x, ((![w] : Fin 1 → IVec S16 32) a x).toNat < S25600.size a) → C2)
    {i1 : PLift C1 → ∀ a x, ((![u] : Fin 1 → IVec S16 32) a x).toNat < S256.size a}
    {i2 : PLift C2 → ∀ a x, ((![w] : Fin 1 → IVec S16 32) a x).toNat < S25600.size a}
    (hu : ∀ x, u x = v x * 8#32 + BitVec.ofNat 32 j)
    (hw : ∀ x, w x = BitVec.ofNat 32 (x 0).val * 8#32 + BitVec.ofNat 32 j + BitVec.ofNat 32 g * 128#32)
    {hl : sT.view.Loads} {hs : (sR.access (.whole S25600)).Stores Finset.univ} {α : Type}
    {k : PUnit → Prog (TpuEff nD τ sig (Elt F) Λ₀ (.scVector (cV L) (jV L))) α} {Q : α → sProp 𝕄} :
    looked d L tab ids (Upto g j)
      ⊢ iprop((looked d L tab ids (Upto g (j + 1)) -∗ wp frame (wpE (defs₀ (F := F)) 𝒱₀ (thr d L) none) Set.univ (k ⟨⟩) Q)
        -∗ wp frame (wpE (defs₀ (F := F)) 𝒱₀ (thr d L) none) Set.univ
            (.op (.assume C1 d1) fun h1 => (SparseCore.vectorLoadIdx sT ![u] (i1 h1) hl >>= fun x =>
              .op (.assume C2 d2) fun h2 => (SparseCore.vectorStoreIdx sR ![w] x (fun _ => 1#1) false (i2 h2) hs >>= k))) Q) := by
  rw [wp_assume_of _ _ _ _ (hC1 (gather_inb hj hlt hu))]
  exact wp_put d L tab ids hg hj hv hlt hC2 hu hw

omit [FloatOps F] in
/-- Lane `x` of the lane numbers. -/
theorem lane_at (x : S16.Idx) : iota .scVector S16 32 [0] iota_S16_d0_w32_scVector x = BitVec.ofNat 32 (x 0).val := by
  show BitVec.ofNat 32 (0 * 16 + (x 0).val) = _
  rw [Nat.zero_mul, Nat.zero_add]

omit [FloatOps F] in
/-- The group's number as the loop counts it. -/
theorem group_at (g : Fin k0_t2_loop.trips) : Scf.iv 0#32 1#32 g = BitVec.ofNat 32 g.val := by
  unfold Scf.iv; simp

theorem trips2 (g : Fin k0_t2_loop.trips) : g.val < 200 := lt_of_lt_of_le g.isLt k0_t2_abs.2.1

/-- The sixteen row numbers that trip `g` loads. -/
abbrev groupIds (g : Fin k0_t2_loop.trips) : Vec F S16 .i32 :=
  sI.view.readAt (Elt F) (Rect.unit (s := S3200) (k0_off2 g) S16.size (k0_off2_inb g)).toLoadRect ids

omit [FloatOps F] in
theorem groupIds_at (g : Fin k0_t2_loop.trips) (x : S16.Idx) : groupIds (F := F) ids g x = ids (at1 3200 (16 * g.val + (x 0).val)) := by
  unfold groupIds
  simp only [View.readAt_apply, Memref.view_whole, View.read_whole]
  congr 1
  apply eq_at1
  rw [LoadRect.idx_apply]
  show k0_off2 g 0 + 1 * (x 0).val = _
  rw [k0_off2_eq]
  show 16 * g.val + 1 * (x 0).val = _
  omega

/-- A scatter's places in trip `g`: lane `x`'s, at column `j`. -/
theorem place_at {w : IVec S16 32} (g : Fin k0_t2_loop.trips) (j : ℕ)
    (h : ∀ x, w x = iota .scVector S16 32 [0] iota_S16_d0_w32_scVector x * 8#32 + BitVec.ofNat 32 j + Scf.iv 0#32 1#32 g * 128#32) (x : S16.Idx) :
    w x = BitVec.ofNat 32 (x 0).val * 8#32 + BitVec.ofNat 32 j + BitVec.ofNat 32 g.val * 128#32 := by
  rw [h, lane_at, group_at]

/-- The group's first place, as the kernel computes it. -/
abbrev groupOff (g : Fin k0_t2_loop.trips) : BitVec 32 := Scalar.muli (Scf.iv 0#32 1#32 g) 128#32

set_option maxRecDepth 65536 in
/-- The trip's first part: five columns put, and the sixth's gather checked. -/
theorem wp_part (g : Fin k0_t2_loop.trips) (hlt : ∀ x, (ids x).toNat < 32) :
    iprop((sI.view.loc (thr d L) ↦{fullShare} (ids : Buf (Elt F) (sI.view.loc (thr d L)))) ∗ looked d L tab ids (Upto g 0))
      ⊢ wp frame (wpE (defs₀ (F := F)) 𝒱₀ (thr d L) none) Set.univ
          (k0_part1 (F := F) L iV (Memref.isWhole_whole _) tV (Memref.isWhole_whole _) oV (Memref.isWhole_whole _)
            sT (Memref.isWhole_whole _) sI (Memref.isWhole_whole _) sR (Memref.isWhole_whole _) cc0_scoped0 cc0_scoped1 cc0_scoped2 k0_pay2 k0_pay3 k0_pay4 k0_pay5 k0_pay6 0#32 1#32 g)
          fun r => iprop(⌜r.1 = k0_pay12 (groupIds (F := F) ids g) ∧ r.2.1 = groupOff g ∧ r.2.2.1 = k0_pay23 (groupIds (F := F) ids g)⌝
            ∗ (sI.view.loc (thr d L) ↦{fullShare} (ids : Buf (Elt F) (sI.view.loc (thr d L)))) ∗ looked d L tab ids (Upto g 5)) := by
  have hg := trips2 g
  have hv := groupIds_at (F := F) ids g
  have hvl : ∀ x, (groupIds (F := F) ids g x).toNat < 32 := fun x => by rw [hv]; exact hlt _
  simp only [k0_part1_eq_skeleton, k0_part1_skel, Prog.lift, Prog.bind_op, Prog.bind_ret, Prog.pure_eq_ret]
  iintro ⟨Hi, HL⟩
  iapply (wp_load 𝒱₀ (thr d L) none Set.univ (m := sI) (S := Finset.univ) (Finset.subset_univ _)) $$ Hi
  iintro Hi
  iapply (wp_word (F := F) d L tab ids (j := 0) (u := k0_pay13 (groupIds (F := F) ids g)) (w := k0_pay14 k0_pay2 0#32 1#32 g) hg (by decide) hv hvl id id (fun _ => rfl) (place_at g 0 fun _ => rfl)) $$ HL; iintro HL
  iapply (wp_word (F := F) d L tab ids (j := 1) (u := k0_pay15 (groupIds (F := F) ids g)) (w := k0_pay16 k0_pay3 0#32 1#32 g) hg (by decide) hv hvl id id (fun _ => rfl) (place_at g 1 fun _ => rfl)) $$ HL; iintro HL
  iapply (wp_word (F := F) d L tab ids (j := 2) (u := k0_pay17 (groupIds (F := F) ids g)) (w := k0_pay18 k0_pay4 0#32 1#32 g) hg (by decide) hv hvl id id (fun _ => rfl) (place_at g 2 fun _ => rfl)) $$ HL; iintro HL
  iapply (wp_word (F := F) d L tab ids (j := 3) (u := k0_pay19 (groupIds (F := F) ids g)) (w := k0_pay20 k0_pay5 0#32 1#32 g) hg (by decide) hv hvl id id (fun _ => rfl) (place_at g 3 fun _ => rfl)) $$ HL; iintro HL
  iapply (wp_word (F := F) d L tab ids (j := 4) (u := k0_pay21 (groupIds (F := F) ids g)) (w := k0_pay22 k0_pay6 0#32 1#32 g) hg (by decide) hv hvl id id (fun _ => rfl) (place_at g 4 fun _ => rfl)) $$ HL; iintro HL
  rw [wp_assume_of _ _ _ _ (show k0_chk11 (k0_pay23 (groupIds (F := F) ids g)) from gather_inb (j := 5) (by decide) hvl fun _ => rfl), wp_ret]
  imodintro
  isplitr
  · ipureintro; exact ⟨rfl, rfl, rfl⟩
  isplitl [Hi]; · iexact Hi
  iexact HL

set_option maxRecDepth 65536 in
/-- One trip of the inner loop: sixteen more rows are right. -/
theorem wp_trip (g : Fin k0_t2_loop.trips) (hlt : ∀ x, (ids x).toNat < 32) :
    iprop((sI.view.loc (thr d L) ↦{fullShare} (ids : Buf (Elt F) (sI.view.loc (thr d L)))) ∗ looked d L tab ids (· < 128 * g.val))
      ⊢ wp frame (wpE (defs₀ (F := F)) 𝒱₀ (thr d L) none) Set.univ
          (k0_t2_body (F := F) L iV (Memref.isWhole_whole _) tV (Memref.isWhole_whole _) oV (Memref.isWhole_whole _)
            sT (Memref.isWhole_whole _) sI (Memref.isWhole_whole _) sR (Memref.isWhole_whole _) cc0_scoped0 cc0_scoped1 cc0_scoped2 g ⟨⟩)
          fun _ => iprop((sI.view.loc (thr d L) ↦{fullShare} (ids : Buf (Elt F) (sI.view.loc (thr d L)))) ∗ looked d L tab ids (· < 128 * (g.val + 1))) := by
  have hg := trips2 g
  have hv := groupIds_at (F := F) ids g
  have hvl : ∀ x, (groupIds (F := F) ids g x).toNat < 32 := fun x => by rw [hv]; exact hlt _
  unfold k0_t2_body
  rw [wp_bind, show (fun y => y < 128 * g.val) = Upto g.val 0 from funext fun _ => propext upto_zero.symm,
    show (fun y => y < 128 * (g.val + 1)) = Upto g.val 8 from funext fun _ => propext upto_eight.symm]
  refine (wp_part (F := F) d L tab ids g hlt).trans (wp_mono frame _ _ fun r => ?_)
  obtain ⟨v33, v34, v61, hw11⟩ := r
  simp only [Prog.lift, Prog.bind_op, Prog.bind_ret, Prog.pure_eq_ret]
  iintro ⟨%hr, Hi, HL⟩
  obtain ⟨rfl, rfl, rfl⟩ := hr
  iapply (wp_put (F := F) d L tab ids (j := 5) (u := k0_pay23 (groupIds (F := F) ids g)) (w := k0_pay7 (groupOff g)) hg (by decide) hv hvl id (fun _ => rfl) (place_at g 5 fun _ => rfl)) $$ HL; iintro HL
  iapply (wp_word (F := F) d L tab ids (j := 6) (u := k0_pay8 (k0_pay12 (groupIds (F := F) ids g))) (w := k0_pay9 (groupOff g)) hg (by decide) hv hvl id id (fun _ => rfl) (place_at g 6 fun _ => rfl)) $$ HL; iintro HL
  iapply (wp_word (F := F) d L tab ids (j := 7) (u := k0_pay10 (k0_pay12 (groupIds (F := F) ids g))) (w := k0_pay11 (groupOff g)) hg (by decide) hv hvl id id (fun _ => rfl) (place_at g 7 fun _ => rfl)) $$ HL; iintro HL
  rw [wp_ret]
  imodintro
  isplitl [Hi]; · iexact Hi
  iexact HL

end Trip

end Cert.Proof.Ideal

end
-- ==== Proof.Ideal.Tile.lean ====
/-
  A vector subcore's whole task: its copy of the table, then its eight chunks, each fetched, looked up and written out.
-/
module

public import proofs.«01_k».proof.Proof.Ideal.Word

@[expose] public section

noncomputable section

namespace Cert.Proof.Ideal

open Cert.KernelIdeal Cert.KernelIdeal.Gen Cert.Proof.Look

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

theorem trips1_eq : k0_t1_loop.trips = 8 := by decide
theorem trips2_eq : k0_t2_loop.trips = 200 := by decide

theorem trips1_lt (t : Fin k0_t1_loop.trips) : t.val < 8 := lt_of_lt_of_eq t.isLt trips1_eq

/-- The chunk that trip `t` of the subcore at `L` works on, by its number. -/
abbrev chunkL (t : ℕ) : ℕ := chunk (L 0).val (L 1).val t

theorem chunkL_lt {t : ℕ} (ht : t < 8) : chunkL L t < 256 := by
  have h0 : (L 0).val < 2 := (L 0).isLt
  have h1 : (L 1).val < 16 := (L 1).isLt
  unfold chunkL chunk; omega

/-- The chunk's row numbers, and its place in the flat result, as the trip slices them. -/
abbrev idsK (t : Fin k0_t1_loop.trips) : Memref sig .scVector .hbm S3200 .i32 :=
  iV.slice (Rect.unit (s := S819200) (k0_off1 L t) S3200.size (k0_off1_inb L t)) (fun _ => rfl)
abbrev outK (t : Fin k0_t1_loop.trips) : Memref sig .scVector .hbm S25600 .f32 :=
  oV.slice (Rect.unit (s := S6553600) (k0_off3 L t) S25600.size (k0_off3_inb L t)) (fun _ => rfl)

/-- The chunk's place is the chunk's words. -/
theorem outK_set (t : Fin k0_t1_loop.trips) : (outK L t).view.set = chunkSet (chunkL L t.val) := by
  show ((View.whole main_v2_scv : View sig .scVector _ _ _).slice (Rect.unit (s := S6553600) (k0_off3 L t) S25600.size (k0_off3_inb L t))).set = _
  rw [View.set_slice_whole]
  ext y
  rw [mem_chunkSet, Rect.mem_set_unit]
  have h : k0_off3 L t 0 = 25600 * chunkL L t.val := by
    rw [k0_off3_eq]
    show 409600 * (L 1).val + 204800 * (L 0).val + 25600 * t.val = _
    unfold chunkL chunk; omega
  constructor
  · intro hy
    have := hy 0
    rw [h] at this
    have h2 : S25600.size 0 = 25600 := rfl
    rw [h2] at this
    exact ⟨this.1, by omega⟩
  · intro hy a
    obtain rfl : a = 0 := Subsingleton.elim (α := Fin 1) _ _
    rw [h]
    have h2 : S25600.size 0 = 25600 := rfl
    rw [h2]
    exact ⟨hy.1, by omega⟩

/-- What the trip's fetch reads. -/
def fetched (t : Fin k0_t1_loop.trips) : IVec S3200 32 := (idsK L t).view.read (Elt F) (idsFlat m d : Buf (Elt F) (idsLoc d))

theorem fetched_at (t : Fin k0_t1_loop.trips) (x : S3200.Idx) :
    fetched m d L t x = idsFlat m d (at1 819200 (3200 * chunkL L t.val + (x 0).val)) := by
  unfold fetched
  rw [View.read_apply]
  refine (cast_eq _ _).trans ?_
  congr 1
  apply eq_at1
  show k0_off1 L t 0 + 1 * (x 0).val = _
  rw [k0_off1_eq]
  show 51200 * (L 1).val + 25600 * (L 0).val + 3200 * t.val + 1 * (x 0).val = _
  unfold chunkL chunk; omega

omit [FloatOps F] in
/-- The chunk's words as the trip's slice names them. -/
theorem outK_loc (t : Fin k0_t1_loop.trips) (g : Buf (Elt F) (outLoc d)) :
    (outLoc d ↦[chunkSet (chunkL L t.val)]{fullShare} g : sProp 𝕄) = (outK L t).view.loc (thr d L) ↦[(outK L t).view.set]{fullShare} g := by
  rw [outK_set]

/-- The chunk's place written with the chunk's rows holds the looked-up rows on the chunk. -/
theorem outK_written (t : Fin k0_t1_loop.trips) (g : Buf (Elt F) (outLoc d)) {f : Vec F S25600 .f32}
    (hf : Filled (look 3200 25600 (tabFlat m d) (fetched m d L t)) (· < 25600) f) :
    ((outK L t).view.loc (thr d L) ↦[(outK L t).view.set]{fullShare} (outK L t).view.writes (Elt F) g [⟨Rect.whole S25600, f⟩] : sProp 𝕄)
      = outLoc d ↦[chunkSet (chunkL L t.val)]{fullShare} (outFlat m d : Buf (Elt F) (outLoc d)) := by
  rw [← outK_set, ← View.write_univ_eq_writes_whole]
  refine pointsTo_congr fun y hy => ?_
  obtain ⟨z, -, rfl⟩ := Finset.mem_map.mp hy
  have hz : (z 0).val < 25600 := (z 0).isLt
  rw [View.write_emb_of_mem _ _ (Finset.mem_univ z)]
  refine (cast_eq _ _).trans ((hf z hz).trans ?_)
  have hc := chunkL_lt L (trips1_lt t)
  refine look_chunk (o := 3200 * chunkL L t.val) (by omega) (fetched_at m d L t) z _ ?_
  show k0_off3 L t 0 + 1 * (z 0).val = _
  rw [k0_off3_eq]
  show 409600 * (L 1).val + 204800 * (L 0).val + 25600 * t.val + 1 * (z 0).val = _
  unfold chunkL chunk; omega

/-! ## The chunk's trip -/

/-- Chunk `t` of the subcore after `k` trips: looked up below `k`, as it was from `k` on. -/
abbrev progress (k t : ℕ) : Buf (Elt F) (outLoc d) := if t < k then after m d t else before m d t

/-- The subcore's chunks of the result after `k` trips. -/
def chunks (k : ℕ) : sProp 𝕄 :=
  bigSep Finset.univ fun t : Fin 8 => outLoc d ↦[chunkSet (chunkL L t.val)]{fullShare} progress m d k t.val

/-- Those of the chunks that trip `k` leaves alone. -/
def others (k : Fin 8) : sProp 𝕄 :=
  bigSep (Finset.univ.erase k) fun t : Fin 8 => outLoc d ↦[chunkSet (chunkL L t.val)]{fullShare} progress m d k.val t.val

theorem chunks_take (k : Fin 8) :
    (chunks m d L k.val : sProp 𝕄) = iprop((outLoc d ↦[chunkSet (chunkL L k.val)]{fullShare} before m d k.val) ∗ others m d L k) := by
  unfold chunks others
  rw [SparseCore.bigSep_erase' (Finset.mem_univ k)]
  unfold progress; rw [if_neg (lt_irrefl _)]

theorem chunks_put (k : Fin 8) :
    (chunks m d L (k.val + 1) : sProp 𝕄) = iprop((outLoc d ↦[chunkSet (chunkL L k.val)]{fullShare} after m d k.val) ∗ others m d L k) := by
  unfold chunks others
  have h : (bigSep (Finset.univ.erase k) fun t : Fin 8 => (outLoc d ↦[chunkSet (chunkL L t.val)]{fullShare} progress m d (k.val + 1) t.val : sProp 𝕄))
      = bigSep (Finset.univ.erase k) fun t : Fin 8 => outLoc d ↦[chunkSet (chunkL L t.val)]{fullShare} progress m d k.val t.val := by
    refine bigSep_congr fun t ht => ?_
    have hne : t.val ≠ k.val := fun e => (Finset.mem_erase.mp ht).1 (Fin.ext e)
    rw [show progress m d (k.val + 1) t.val = progress m d k.val t.val by
      unfold progress; exact if_congr (by omega) rfl rfl]
  rw [SparseCore.bigSep_erase' (Finset.mem_univ k), h,
    show progress m d (k.val + 1) k.val = after m d k.val from if_pos (Nat.lt_succ_self _)]

/-- What the subcore holds before trip `k` of its chunk loop. -/
def chunkInv (O : CellTallies nD τ sig (HIx 1)) (W : Waits sig (HIx 1)) (k : Nat) (_ : PUnit) : sProp 𝕄 :=
  iprop(Transfers.MayWaits (thr d L) (none : HIx 1) O
    ∗ (iV.view.loc (thr d L) ↦{tileShare (L 0).val (L 1).val} (idsFlat m d : Buf (Elt F) (iV.view.loc (thr d L))))
    ∗ (sT.view.loc (thr d L) ↦{fullShare} (tabFlat m d : Buf (Elt F) (sT.view.loc (thr d L))))
    ∗ (∃ f, sI.view.loc (thr d L) ↦{fullShare} f)
    ∗ (∃ f, sR.view.loc (thr d L) ↦{fullShare} f)
    ∗ semVal (thr d L, SemLoc.dma cc0_scoped1.sem) 0
    ∗ semVal (thr d L, SemLoc.dma cc0_scoped2.sem) 0
    ∗ chunks m d L k
    ∗ ∃ W', ⌜∀ p ∈ W', p ∈ W ∨ p.2 = none⌝ ∗ owes (thr d L) O W')

/-- What the subcore holds of its memory before trip `g` of the inner loop. -/
def groupInv (tab : Vec F S256 .f32) (ids : IVec S3200 32) (g : Nat) (_ : PUnit) : sProp 𝕄 :=
  iprop((sI.view.loc (thr d L) ↦{fullShare} (ids : Buf (Elt F) (sI.view.loc (thr d L)))) ∗ looked d L tab ids (· < 128 * g))

omit [FloatOps F] in
theorem idsWritten (f : Buf (Elt F) (sI.view.loc (thr d L))) (x : IVec S3200 32) :
    (sI.view.loc (thr d L) ↦{fullShare} sI.view.write (Elt F) f x Finset.univ : sProp 𝕄)
      = sI.view.loc (thr d L) ↦{fullShare} (x : Buf (Elt F) (sI.view.loc (thr d L))) := by
  rw [show sI.view.write (Elt F) f x Finset.univ = x from View.write_whole_univ (cc0_scratch1 : Ref sig .scVector) f x]

/-- A recorded wait of the transfers' own index keeps the record's bound. -/
theorem waited_insert (s : SemLoc sig) {W W' : Waits sig (HIx 1)} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

/-- One trip of the chunk loop. -/
theorem wp_chunk (hpre : PreOK m) (O : CellTallies nD τ sig (HIx 1)) (W : Waits sig (HIx 1)) (k : Fin k0_t1_loop.trips) :
    chunkInv m d L O W k.val ⟨⟩
      ⊢ wp frame (wpE (defs₀ (F := F)) 𝒱₀ (thr d L) none) Set.univ
          (k0_t1_body (F := F) L iV (Memref.isWhole_whole _) tV (Memref.isWhole_whole _) oV (Memref.isWhole_whole _)
            sT (Memref.isWhole_whole _) sI (Memref.isWhole_whole _) sR (Memref.isWhole_whole _) cc0_scoped0 cc0_scoped1 cc0_scoped2 k ⟨⟩)
          fun _ => chunkInv m d L O W (k.val + 1) ⟨⟩ := by
  have hk := trips1_lt k
  have hlt : ∀ x, (fetched m d L k x).toNat < 32 := fun x => by rw [fetched_at]; exact hpre d _
  unfold chunkInv
  rw [show chunks m d L k.val = _ from chunks_take m d L ⟨k.val, hk⟩, show chunks m d L (k.val + 1) = _ from chunks_put m d L ⟨k.val, hk⟩]
  iintro ⟨Hmw, Hids, Ht, ⟨%fi, Hi⟩, ⟨%fr, Hr⟩, Hs1, Hs2, ⟨Ho, Hos⟩, %W', %hW', HO⟩
  unfold k0_t1_body
  sl_exec (disch := exact View.amount_pos _ _ (show 0 < S3200.numel by decide))
  rw [show wp_chunk.sl.dma0 m d L k = fetched m d L k from rfl]
  ihave Hi' := (Entails.of_eq (idsWritten (F := F) d L fi (fetched m d L k))) $$ Hi
  sl_for (groupInv d L (tabFlat m d) (fetched m d L k)) $$ [Hi' Ht Hr]
  case region =>
    intro g _
    exact wp_trip d L (tabFlat m d) (fetched m d L k) g hlt
  · unfold groupInv looked
    isplitl [Hi']; · iexact Hi'
    isplitl [Ht]; · iexact Ht
    iexists fr; isplitr
    · ipureintro; exact fun y hy => absurd hy (by omega)
    · iexact Hr
  iintro %_ HI
  unfold groupInv looked
  icases HI with ⟨Hi, Ht, %f, %hf, Hr⟩
  have hf' : Filled (look 3200 25600 (tabFlat m d) (fetched m d L k)) (· < 25600) f := by
    rwa [show Scf.trips k0_t2_loop.lb k0_t2_loop.ub k0_t2_loop.st = 200 from trips2_eq] at hf
  ihave Ho' := (Entails.of_eq (outK_loc (F := F) d L k (before m d k.val))) $$ Ho
  sl_exec (disch := exact View.amount_pos _ _ (show 0 < S25600.numel by decide))
  sl_step
  rw [show wp_chunk.sl.dma0_1 f = f from rfl]
  isplitl [Hmw]; · iexact Hmw
  isplitl [Hids]; · iexact Hids
  isplitl [Ht]; · iexact Ht
  isplitl [Hi]; · iexists _; iexact Hi
  isplitl [Hr]; · iexists _; iexact Hr
  isplitl [Hs1]; · iexact Hs1
  isplitl [Hs2]; · iexact Hs2
  isplitl [Ho' Hos]
  · isplitl [Ho']
    · iapply (Entails.of_eq (outK_written (F := F) m d L k (m (outLoc d)) hf')); iexact Ho'
    · iexact Hos
  iexists (insert (SemLoc.dma cc0_scoped2.sem, (default : HIx 1)) (insert (SemLoc.dma cc0_scoped1.sem, (default : HIx 1)) W')); isplitr
  · ipureintro; exact waited_insert _ (waited_insert _ hW')
  · iexact HO

/-! ## The task -/

/-- A semaphore cell and a scratch buffer of the subcore. -/
abbrev cellV (s : DmaSem sig) : GSem nD τ sig := (thr d L, SemLoc.dma s)
abbrev refV (b : Ref sig .scVector) : DevRef τ sig := (Proc.scVector (cV L) (jV L)).devRef b

omit [FloatOps F] in
theorem cell_own {s : DmaSem sig} (h : (SemLoc.dma s : SemLoc sig).isScoped .scVector = true) : cellV d L s ∈ ownCells (thr d L) :=
  mem_ownCells.mpr ⟨rfl, h⟩
omit [FloatOps F] in
theorem cell_ne {s s' : DmaSem sig} (h : s ≠ s') : cellV d L s ≠ cellV d L s' := fun e => h (SemLoc.dma.inj (Prod.mk.inj e).2)
omit [FloatOps F] in
theorem ref_own {b : Ref sig .scVector} (h : (refV L b).owner = .proc (.scVector (cV L) (jV L))) :
    refV L b ∈ ownRefs (τ := τ) (.scVector (cV L) (jV L)) :=
  SparseCore.Cfg.mem_ownRefs_of_owner h
omit [FloatOps F] in
theorem ref_ne {b b' : Ref sig .scVector} (h : b ≠ b') : refV L b ≠ refV L b' := fun e => h (Proc.devRef_injective _ e)

omit [FloatOps F] in
/-- The subcore's semaphores at zero: the three the task uses, and the rest. -/
theorem sems_split :
    (ownSems0 (thr d L) : sProp 𝕄)
      = iprop(semVal (cellV d L cc0_scoped0.sem) 0 ∗ semVal (cellV d L cc0_scoped1.sem) 0 ∗ semVal (cellV d L cc0_scoped2.sem) 0
          ∗ bigSep ((((ownCells (thr d L)).erase (cellV d L cc0_scoped0.sem)).erase (cellV d L cc0_scoped1.sem)).erase (cellV d L cc0_scoped2.sem))
              fun g => semVal g 0) := by
  have h0 := cell_own d L (s := cc0_scoped0.sem) (by decide)
  have h1 := cell_own d L (s := cc0_scoped1.sem) (by decide)
  have h2 := cell_own d L (s := cc0_scoped2.sem) (by decide)
  have n10 := cell_ne d L (s := cc0_scoped1.sem) (s' := cc0_scoped0.sem) (by decide)
  have n20 := cell_ne d L (s := cc0_scoped2.sem) (s' := cc0_scoped0.sem) (by decide)
  have n21 := cell_ne d L (s := cc0_scoped2.sem) (s' := cc0_scoped1.sem) (by decide)
  unfold SparseCore.Cfg.ownSems0
  rw [SparseCore.bigSep_erase' h0, SparseCore.bigSep_erase' (Finset.mem_erase.mpr ⟨n10, h1⟩),
    SparseCore.bigSep_erase' (Finset.mem_erase.mpr ⟨n21, Finset.mem_erase.mpr ⟨n20, h2⟩⟩)]

omit [FloatOps F] in
/-- The subcore's buffers at some contents: its table, its row numbers and its rows, and the rest. -/
theorem bufs_split :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f)
          ∗ bigSep ((((ownRefs (τ := τ) (.scVector (cV L) (jV L))).erase (refV L cc0_scratch0)).erase (refV L cc0_scratch1)).erase (refV L cc0_scratch2))
              fun b => iprop(∃ f, ((d, b) : Loc nD τ sig) ↦{fullShare} f)) := by
  have h0 := ref_own L (b := cc0_scratch0) rfl
  have h1 := ref_own L (b := cc0_scratch1) rfl
  have h2 := ref_own L (b := cc0_scratch2) rfl
  have n10 := ref_ne L (b := cc0_scratch1) (b' := cc0_scratch0) (by decide)
  have n20 := ref_ne L (b := cc0_scratch2) (b' := cc0_scratch0) (by decide)
  have n21 := ref_ne L (b := cc0_scratch2) (b' := cc0_scratch1) (by decide)
  unfold SparseCore.Cfg.ownBufs
  refine (SparseCore.bigSep_erase' h0).trans ?_
  rw [SparseCore.bigSep_erase' (Finset.mem_erase.mpr ⟨n10, h1⟩),
    SparseCore.bigSep_erase' (Finset.mem_erase.mpr ⟨n21, Finset.mem_erase.mpr ⟨n20, h2⟩⟩)]

omit [FloatOps F] in
theorem tabWritten (f : Buf (Elt F) (sT.view.loc (thr d L))) (x : Vec F S256 .f32) :
    (sT.view.loc (thr d L) ↦{fullShare} sT.view.write (Elt F) f x Finset.univ : sProp 𝕄)
      = sT.view.loc (thr d L) ↦{fullShare} (x : Buf (Elt F) (sT.view.loc (thr d L))) := by
  rw [show sT.view.write (Elt F) f x Finset.univ = x from View.write_whole_univ (cc0_scratch0 : Ref sig .scVector) f x]

theorem chunks_zero :
    (chunks m d L 0 : sProp 𝕄) = bigSep Finset.univ fun t : Fin 8 => outLoc d ↦[chunkSet (chunkL L t.val)]{fullShare} before m d t.val := by
  unfold chunks
  refine bigSep_congr fun t _ => ?_
  rw [show progress m d 0 t.val = before m d t.val from if_neg (Nat.not_lt_zero _)]

theorem chunks_all :
    (chunks m d L 8 : sProp 𝕄) = bigSep Finset.univ fun t : Fin 8 => outLoc d ↦[chunkSet (chunkL L t.val)]{fullShare} after m d t.val := by
  unfold chunks
  refine bigSep_congr fun t _ => ?_
  rw [show progress m d 8 t.val = after m d t.val from if_pos t.isLt]

/-- The task on the vector subcore at `L`: it takes its part with the chunks as they were and gives it back with the
    chunks looked up. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ forTile m d (L 0).val (L 1).val (before m d)
        ∗ scopedBufs (thr d L) ∗ scopedSems0 (thr d L) ∗ owes (thr d L) O W)
      ⊢ wp frame (wpE (defs₀ (F := F)) 𝒱₀ (thr d L) none) Set.univ
          (cc0__embed_lookup L iV (Memref.isWhole_whole _) tV (Memref.isWhole_whole _) oV (Memref.isWhole_whole _)
            sT (Memref.isWhole_whole _) sI (Memref.isWhole_whole _) sR (Memref.isWhole_whole _) cc0_scoped0 cc0_scoped1 cc0_scoped2)
          fun _ => iprop(forTile m d (L 0).val (L 1).val (after m d) ∗ scopedBufs (thr d L) ∗ scopedSems0 (thr d L)
            ∗ ∃ W', ⌜∀ p ∈ W', p ∈ W ∨ p.2 = none⌝ ∗ owes (thr d L) O W') := by
  simp only [cc0__embed_lookup_eq_skeleton]; unfold cc0__embed_lookup_skel
  rw [(K (F := F)).scopedBufs_V hF d (cV L) (jV L), SparseCore.Cfg.scopedSems0_V (Val := Elt F) d (cV L) (jV L), sems_split, bufs_split]
  unfold forTile
  rw [← chunks_zero m d L, ← chunks_all m d L]
  iintro ⟨#Hlv, -, ⟨Hids, Htab, Hch⟩, ⟨⟨%ft, Ht⟩, Hi, Hr, Hbufs⟩, ⟨Hs0, Hs1, Hs2, Hsems⟩, HO⟩
  ihave Hmw := ((K (F := F)).mayWaits_none (thr := thr d L) hO) $$ Hlv
  ihave Htab' := (Entails.of_eq (show (tabLoc d ↦{tileShare (L 0).val (L 1).val} (tabFlat m d : Buf (Elt F) (tabLoc d)) : sProp 𝕄)
    = (tV.view.loc (thr d L) ↦{tileShare (L 0).val (L 1).val} (tabFlat m d : Buf (Elt F) (tV.view.loc (thr d L)))) from rfl)) $$ Htab
  ihave Ht' := (Entails.of_eq (show ((thr d L).loc cc0_scratch0 ↦{fullShare} ft : sProp 𝕄) = (sT.view.loc (thr d L) ↦{fullShare} ft) from rfl)) $$ Ht
  sl_exec
  rw [show tile_body.sl.dma0 m d = tabFlat m d from rfl]
  ihave Ht := (Entails.of_eq (tabWritten (F := F) d L ft (tabFlat m d))) $$ Ht'
  sl_for (chunkInv m d L O W) $$ [Hids Ht Hi Hr Hs1 Hs2 Hch HO]
  case region =>
    intro k _
    exact wp_chunk m d L hpre O W k
  · unfold chunkInv
    isplitr; · iexact Hmw
    isplitl [Hids]; · iexact Hids
    isplitl [Ht]; · iexact Ht
    isplitl [Hi]; · iexact Hi
    isplitl [Hr]; · iexact Hr
    isplitl [Hs1]; · iexact Hs1
    isplitl [Hs2]; · iexact Hs2
    isplitl [Hch]; · iexact Hch
    iexists (insert (SemLoc.dma cc0_scoped0.sem, (default : HIx 1)) W); isplitr
    · ipureintro; exact waited_insert _ fun p hp => .inl hp
    · iexact HO
  iintro %_ HI
  unfold chunkInv
  icases HI with ⟨-, Hids, Ht, Hi, Hr, Hs1, Hs2, Hch0, HW⟩
  ihave Hch := (Entails.of_eq (congrArg (chunks m d L) (show Scf.trips k0_t1_loop.lb k0_t1_loop.ub k0_t1_loop.st = 8 from trips1_eq))) $$ Hch0
  sl_exec
  sl_step
  isplitl [Hids Htab' Hch]
  · isplitl [Hids]; · iexact Hids
    isplitl [Htab']; · iexact Htab'
    iexact Hch
  isplitl [Ht Hi Hr Hbufs]
  · isplitl [Ht]; · iexists _; iexact Ht
    isplitl [Hi]; · iexact Hi
    isplitl [Hr]; · iexact Hr
    iexact Hbufs
  isplitl [Hs0 Hs1 Hs2 Hsems]
  · isplitl [Hs0]; · iexact Hs0
    isplitl [Hs1]; · iexact Hs1
    isplitl [Hs2]; · iexact Hs2
    iexact Hsems
  iexact HW

end Cert.Proof.Ideal

end
-- ==== Proof.Ideal.Main.lean ====
/-
  The program's run: the vector subcores' tasks as the launch theorem asks for them, and @main on the TensorCore, two
  reshapes, the SparseCore call and a last reshape.
-/
module

public import proofs.«01_k».proof.Proof.Ideal.Tile

@[expose] public section

noncomputable section

namespace Cert.Proof.Ideal

open Cert.KernelIdeal Cert.KernelIdeal.Gen Cert.Proof.Look

open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The subcores' tasks -/

def coordsAt (c : Fin (grid0.bound 0)) (s : Fin (grid0.bound 1)) : grid0.Coords :=
  fun | 0 => c | 1 => s | ⟨_ + 2, h⟩ => absurd h (Nat.not_lt.2 (Nat.le_add_left _ _))

theorem defs₀_at (c : Fin τ.nSC) (s : Fin τ.nSub) :
    defs₀ (F := F) (.scVector c s) 0 ()
      = SparseCore.onTile hcore0 hsub0 (fun c s => cc0__embed_lookup (coordsAt c s)
          iV (Memref.isWhole_whole _) tV (Memref.isWhole_whole _) oV (Memref.isWhole_whole _)
          sT (Memref.isWhole_whole _) sI (Memref.isWhole_whole _) sR (Memref.isWhole_whole _)
          cc0_scoped0 cc0_scoped1 cc0_scoped2) ⟨⟩ c s := rfl

omit [FloatOps F] in
/-- A task that waited only outside every call waited nowhere the launch theorem forbids. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; intro p hp; exact (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_at]; simp only [SparseCore.onTile, hc, and_self, ↓reduceDIte]
  exact (tile_body m d (coordsAt ⟨_, hc.1⟩ ⟨_, hc.2⟩) hF hpre O W hO).trans (wp_mono frame _ _ fun _ => waits_weaken)

/-- A core's part is its subcores' parts, on the way in and on the way out. -/
theorem vecSplit : (K (F := F)).VecSplit' (P m) 0 := by
  intro d c
  show forCore m d c.val (before m d) ⊢ |={Set.univ}=> iprop(
    (bigSep (Finset.univ : Finset (Fin 16)) fun i => forTile m d c.val i.val (before m d))
      ∗ ((bigSep (Finset.univ : Finset (Fin 16)) fun i => forTile m d c.val i.val (after m d)) -∗ forCore m d c.val (after m d)))
  unfold forCore
  iintro H; imodintro
  isplitl [H]; · iexact H
  iintro H; iexact H

/-! ## The launch's ghost state -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

/-- Nothing else is dealt to any thread. -/
theorem noExtra : (bigSep Finset.univ fun thr : Thread nD τ => bigSep Finset.univ fun q : Fin 1 => (P m).x q thr) = (iprop(emp) : sProp 𝕄) := by
  show (bigSep Finset.univ fun _ : Thread nD τ => bigSep Finset.univ fun _ : Fin 1 => (iprop(emp) : sProp 𝕄)) = _
  simp only [emps]

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  rw [noExtra]; iempintro

/-! ## The flat arrays, dealt to the cores and gathered from them -/

/-- The words of the result that subcore `i` of core `c` writes, and those that core `c`'s subcores write. -/
def tileSet (c i : ℕ) : Finset S6553600.Idx := Finset.univ.biUnion fun t : Fin 8 => chunkSet (chunk c i t.val)
def coreSet (c : ℕ) : Finset S6553600.Idx := Finset.univ.biUnion fun i : Fin 16 => tileSet c i.val

theorem mem_tileSet {c i : ℕ} {y : S6553600.Idx} : y ∈ tileSet c i ↔ (y 0).val / 25600 / 8 = 2 * i + c := by
  unfold tileSet
  simp only [Finset.mem_biUnion, Finset.mem_univ, true_and, mem_chunkSet]
  constructor
  · rintro ⟨t, h⟩
    have ht := t.isLt
    unfold chunk at h; omega
  · intro h
    refine ⟨⟨(y 0).val / 25600 % 8, Nat.mod_lt _ (by decide)⟩, ?_⟩
    show 25600 * chunk c i ((y 0).val / 25600 % 8) ≤ _ ∧ _ < 25600 * (chunk c i ((y 0).val / 25600 % 8) + 1)
    unfold chunk; omega

theorem mem_coreSet {c : ℕ} (hc : c < 2) {y : S6553600.Idx} : y ∈ coreSet c ↔ (y 0).val / 25600 / 8 % 2 = c := by
  unfold coreSet
  simp only [Finset.mem_biUnion, Finset.mem_univ, true_and, mem_tileSet]
  have hy : (y 0).val < 6553600 := (y 0).isLt
  constructor
  · rintro ⟨i, h⟩; omega
  · intro h
    refine ⟨⟨(y 0).val / 25600 / 16, by omega⟩, ?_⟩
    show (y 0).val / 25600 / 8 = 2 * ((y 0).val / 25600 / 16) + c
    omega

omit [FloatOps F] in
theorem out_tile (d : Dev nD) (c i : ℕ) (f : Buf (Elt F) (outLoc d)) :
    (outLoc d ↦[tileSet c i]{fullShare} f : sProp 𝕄) = bigSep Finset.univ fun t : Fin 8 => outLoc d ↦[chunkSet (chunk c i t.val)]{fullShare} f := by
  refine pointsTo_biUnion Finset.univ (ℓ := outLoc d) (fun t : Fin 8 => chunkSet (chunk c i t.val)) fun t _ t' _ h => ?_
  refine Finset.disjoint_left.mpr fun y hy hy' => h (Fin.ext ?_)
  rw [mem_chunkSet] at hy hy'
  unfold chunk at hy hy'; omega

omit [FloatOps F] in
theorem out_core (d : Dev nD) (c : ℕ) (f : Buf (Elt F) (outLoc d)) :
    (outLoc d ↦[coreSet c]{fullShare} f : sProp 𝕄) = bigSep Finset.univ fun i : Fin 16 => outLoc d ↦[tileSet c i.val]{fullShare} f := by
  refine pointsTo_biUnion Finset.univ (ℓ := outLoc d) (fun i : Fin 16 => tileSet c i.val) fun i _ i' _ h => ?_
  refine Finset.disjoint_left.mpr fun y hy hy' => h (Fin.ext ?_)
  rw [mem_tileSet] at hy hy'; omega

omit [FloatOps F] in
theorem out_all (d : Dev nD) (f : Buf (Elt F) (outLoc d)) :
    (outLoc d ↦{fullShare} f : sProp 𝕄) = bigSep Finset.univ fun c : Fin 2 => outLoc d ↦[coreSet c.val]{fullShare} f := by
  rw [← pointsTo_biUnion Finset.univ (ℓ := outLoc d) (fun c : Fin 2 => coreSet c.val) fun c _ c' _ h => ?_]
  · refine congrArg (fun A => (outLoc d ↦[A]{fullShare} f : sProp 𝕄)) (Finset.ext fun y => ⟨fun _ => ?_, fun _ => Finset.mem_univ y⟩)
    have hlt : (y 0).val / 25600 / 8 % 2 < 2 := Nat.mod_lt _ (by decide)
    exact Finset.mem_biUnion.mpr ⟨⟨_, hlt⟩, Finset.mem_univ _, (mem_coreSet hlt).mpr rfl⟩
  · refine Finset.disjoint_left.mpr fun y hy hy' => h (Fin.ext ?_)
    rw [mem_coreSet c.isLt] at hy; rw [mem_coreSet c'.isLt] at hy'; omega

omit [FloatOps F] in
/-- An array every subcore reads, dealt to the cores and their subcores. -/
theorem shares_all {ℓ : Loc nD τ sig} (f : Buf (Elt F) ℓ) :
    (ℓ ↦{fullShare} f : sProp 𝕄) = bigSep Finset.univ fun c : Fin 2 => bigSep Finset.univ fun i : Fin 16 => ℓ ↦{tileShare c.val i.val} f := by
  rw [pts_deal fullShare 2 (by decide)]
  exact bigSep_congr fun c _ => pts_deal (coreShare c.val) 16 (by decide)

/-- The two cores' parts, as the three flat arrays whole. -/
theorem parts_eq (d : Dev nD) (f : Buf (Elt F) (outLoc d)) :
    (bigSep (Finset.univ : Finset (Fin 2)) fun c => forCore m d c.val fun _ => f)
      = (iprop((idsLoc d ↦{fullShare} (idsFlat m d : Buf (Elt F) (idsLoc d))) ∗ (tabLoc d ↦{fullShare} (tabFlat m d : Buf (Elt F) (tabLoc d)))
          ∗ outLoc d ↦{fullShare} f) : sProp 𝕄) := by
  rw [shares_all (ℓ := idsLoc d), shares_all (ℓ := tabLoc d), out_all d f]
  simp only [out_core, out_tile]
  rw [← bigSep_sep', ← bigSep_sep']
  refine bigSep_congr fun c _ => ?_
  rw [← bigSep_sep', ← bigSep_sep']
  unfold forCore forTile
  rfl

theorem st0_eq (d : Dev nD) : (bigSep Finset.univ fun c : Fin ((K (F := F)).nCore 0) => (P m).st 0 d c)
    = (iprop((idsLoc d ↦{fullShare} (idsFlat m d : Buf (Elt F) (idsLoc d))) ∗ (tabLoc d ↦{fullShare} (tabFlat m d : Buf (Elt F) (tabLoc d)))
          ∗ outLoc d ↦{fullShare} m (outLoc d)) : sProp 𝕄) :=
  parts_eq m d (m (outLoc d))
theorem dn0_eq (d : Dev nD) : (bigSep Finset.univ fun c : Fin ((K (F := F)).nCore 0) => (P m).dn 0 d c)
    = (iprop((idsLoc d ↦{fullShare} (idsFlat m d : Buf (Elt F) (idsLoc d))) ∗ (tabLoc d ↦{fullShare} (tabFlat m d : Buf (Elt F) (tabLoc d)))
          ∗ outLoc d ↦{fullShare} (outFlat m d : Buf (Elt F) (outLoc d))) : sProp 𝕄) :=
  parts_eq m d (outFlat m d)

/-! ## @main on the TensorCore -/

include m in
/-- A reshape of one array into another, from the two held whole: the target ends at the source's words in row-major
    order. -/
theorem wp_reshape (d : Dev nD) (x y : Ref sig .tc) (hxy : x ≠ y) (he : x.ty.elt = y.ty.elt) (hn : x.ty.shape.ShapeCasts y.ty.shape)
    (hx : x.space ≠ .host ∧ (Proc.devRef .tc x : DevRef τ sig).isScoped = false) (hy : y.space ≠ .host ∧ (Proc.devRef .tc y : DevRef τ sig).isScoped = false)
    (f : Buf (Elt F) ((T d : Thread nD τ).loc x)) (g : Buf (Elt F) ((T d : Thread nD τ).loc y)) (Q : PUnit → sProp 𝕄) :
    iprop(boundary (T d) ∗ ((T d : Thread nD τ).loc x ↦{fullShare} f) ∗ ((T d : Thread nD τ).loc y ↦{fullShare} g))
      ⊢ iprop(((boundary (T d) ∗ ((T d : Thread nD τ).loc x ↦{fullShare} f)
            ∗ ((T d : Thread nD τ).loc y ↦{fullShare} ((fun i => he ▸ shapeCast y.ty.shape f hn i : y.ty.Contents (Elt F)) : Buf (Elt F) ((T d : Thread nD τ).loc y))))
          -∗ Q ⟨⟩)
        -∗ wp frame (wpE ((K (F := F)).defs (D (F := F))) 𝒱 (T d) none) Set.univ
            (hlo rfl (StableHlo.reshape x y he hn hx hy) fun _ => .ret ⟨⟩) Q) := by
  have hne : (Proc.devRef .tc x : DevRef τ sig) ≠ Proc.devRef .tc y := fun h => hxy (Proc.devRef_injective _ h)
  let V : Valuation τ sig (Elt F) := Function.update (Function.update (fun b => m (d, b)) (Proc.devRef .tc x) f) (Proc.devRef .tc y) g
  have hVx : V (Proc.devRef .tc x) = f := (Function.update_of_ne hne _ _).trans (Function.update_self _ _ _)
  have hVy : V (Proc.devRef .tc y) = g := Function.update_self _ _ _
  have h2 : ∀ U : Valuation τ sig (Elt F), (held (T d) {(Proc.devRef .tc x : DevRef τ sig), Proc.devRef .tc y} U : sProp 𝕄)
      = iprop(((T d : Thread nD τ).loc x ↦{fullShare} U (Proc.devRef .tc x)) ∗ (T d : Thread nD τ).loc y ↦{fullShare} U (Proc.devRef .tc y)) := by
    intro U
    unfold held
    rw [SparseCore.bigSep_insert' (by rw [Finset.mem_singleton]; exact hne), bigSep_singleton]
  have h3 : (held (T d) {(Proc.devRef .tc x : DevRef τ sig), Proc.devRef .tc y} ((StableHlo.reshape x y he hn hx hy).result V) : sProp 𝕄)
      = iprop(((T d : Thread nD τ).loc x ↦{fullShare} f)
        ∗ (T d : Thread nD τ).loc y ↦{fullShare} ((fun i => he ▸ shapeCast y.ty.shape f hn i : y.ty.Contents (Elt F)) : Buf (Elt F) ((T d : Thread nD τ).loc y))) := by
    rw [h2, StableHlo.reshape_result, StableHlo.reshape_result_ne _ _ _ _ _ _ _ hxy, hVx]
  iintro ⟨Hb, Hx, Hy⟩ Hk
  iapply (wp_hlo_within 𝒱 (T d) none Set.univ (op := StableHlo.reshape x y he hn hx hy)
    (S := {(Proc.devRef .tc x : DevRef τ sig), Proc.devRef .tc y}) (Finset.Subset.refl _) (V := V)) $$ [Hb Hx Hy]
  · isplitl [Hb]; · iexact Hb
    rw [h2, hVx, hVy]
    isplitl [Hx]; · iexact Hx
    iexact Hy
  iintro ⟨Hb, Hheld⟩
  ihave Hh := (Entails.of_eq h3) $$ Hheld
  icases Hh with ⟨Hx, Hy⟩
  rw [wp_ret]; imodintro
  iapply Hk
  isplitl [Hb]; · iexact Hb
  isplitl [Hx]; · iexact Hx
  iexact Hy

omit [FloatOps F] in
theorem unscopedBufs_eq (d : Dev nD) (W : (b : Ref sig .tc) → Buf (Elt F) ((d.tc : Thread nD τ).loc b)) :
    (unscopedBufs d W : sProp 𝕄) = iprop((argILoc d ↦{fullShare} W main_arg0) ∗ (argTLoc d ↦{fullShare} W main_arg1)
      ∗ (idsLoc d ↦{fullShare} W main_v0) ∗ (tabLoc d ↦{fullShare} W main_v1) ∗ (outLoc d ↦{fullShare} W main_v2)
      ∗ resLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- What @main leaves: the arguments at their launch contents, the result at the looked-up rows. -/
abbrev FIN (d : Dev nD) : sProp 𝕄 :=
  iprop((argILoc d ↦{fullShare} m (argILoc d)) ∗ (argTLoc d ↦{fullShare} m (argTLoc d)) ∗ resLoc d ↦{fullShare} (resVal m d : Buf (Elt F) (resLoc d)))

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Ht, Hi, Hf, Ho, Hr⟩, Hts, -⟩, -⟩
  iapply (wp_reshape m d main_arg0 main_v0 (by decide) rfl shapeCasts_S4096x200_S819200 _ _ (m (argILoc d)) (m (idsLoc d))) $$ [Hb Ha Hi]
  · isplitl [Hb]; · iexact Hb
    isplitl [Ha]; · iexact Ha
    iexact Hi
  iintro ⟨Hb, Ha, Hi⟩
  iapply (wp_reshape m d main_arg1 main_v1 (by decide) rfl shapeCasts_S32x8_S256 _ _ (m (argTLoc d)) (m (tabLoc d))) $$ [Hb Ht Hf]
  · isplitl [Hb]; · iexact Hb
    isplitl [Ht]; · iexact Ht
    iexact Hf
  iintro ⟨Hb, Ht, Hf⟩
  iapply ((K (F := F)).wp_run (D (F := F)) 𝒱 (EH := EH) (P := P m) κ d 0) $$ [Hst Hi Hf Ho Hb Hts Ha Ht Hr]
  isplitr; · iexact Hctx
  isplitl [Hst]; · iexact Hst
  isplitl [Hi Hf Ho]
  · rw [st0_eq]
    isplitl [Hi]; · iexact Hi
    isplitl [Hf]; · iexact Hf
    iexact Ho
  iintro ⟨Hst, Hdn⟩
  ihave Hdn' := (Entails.of_eq (dn0_eq m d)) $$ Hdn
  icases Hdn' with ⟨-, -, Ho⟩
  iapply (wp_reshape m d main_v2 main_v3 (by decide) rfl shapeCasts_S6553600_S4096x200x8 _ _ (outFlat m d : Buf (Elt F) (outLoc d)) (m (resLoc d))) $$ [Hb Ho Hr]
  · isplitl [Hb]; · iexact Hb
    isplitl [Ho]; · iexact Ho
    iexact Hr
  iintro ⟨Hb, -, Hr⟩
  imodintro
  isplitl [Hst]; · iexact Hst
  isplitl [Ha Ht Hr]
  · isplitl [Ha]; · iexact Ha
    isplitl [Ht]; · iexact Ht
    iexact Hr
  isplitl [Hb] <;> iassumption

/-! ## The program's run -/

/-- What a final state's memory holds on device `d`. -/
def fq (d : Dev nD) (s' : Phys nD τ sig (Elt F)) : Prop :=
  s'.mem.mem (argILoc d) = m (argILoc d) ∧ s'.mem.mem (argTLoc d) = m (argTLoc d) ∧ s'.mem.mem (resLoc d) = resVal m d

omit [FloatOps F] in
/-- A whole array held is what the state holds there. -/
theorem held_agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (held_agree s' (argILoc d) (m (argILoc d))) $$ [HSI Ha]
  · isplitl [HSI] <;> iassumption
  icases H with ⟨%h1, HSI⟩
  ihave H := (held_agree s' (argTLoc d) (m (argTLoc d))) $$ [HSI Ht]
  · isplitl [HSI] <;> iassumption
  icases H with ⟨%h2, HSI⟩
  ihave H := (held_agree s' (resLoc d) (resVal m d : Buf (Elt F) (resLoc d))) $$ [HSI Hr]
  · isplitl [HSI] <;> iassumption
  icases H with ⟨%h3, -⟩
  ipureintro; exact ⟨h1, h2, h3⟩

/-- The run's outcome: on every device the arguments as they were and the result at the looked-up rows; every semaphore
    back at zero. -/
def Outcome : PUnit × MemSt nD τ sig (Elt F) → Prop := fun r =>
  (∀ c : Dev nD, r.2.mem (argILoc c) = m (argILoc c) ∧ r.2.mem (argTLoc c) = m (argTLoc c) ∧ r.2.mem (resLoc c) = resVal m c) ∧ r.2.sem = fun _ => 0

/-- Every weakly fair run of the program, from row numbers below 32, ends in that outcome. -/
theorem run_main [∀ e, Nonempty (Elt F e)] (hpre : PreOK m) :
    θ_run (Cert.KernelIdeal.defs (F := F)) (Cert.KernelIdeal.threads (F := F)) ⟨m, fun _ => 0, ρ⟩ (Outcome m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Outcome m) (fun _ h hz => ⟨h, hz⟩)

end Cert.Proof.Ideal

end
-- ==== Proof.Take.lean ====
/-
  The reference's side: under the precondition every row number is below 32, so that jnp.take's wrapping of negative
  numbers changes none, its mask is true everywhere and its gather clamps nothing; what is left is the table read at the
  row numbers (`taken`). And the flat lookup of Values, between reshapes, is that same array.
-/
module

public import proofs.«01_k».proof.Proof.Values
public import proofs.«01_k».proof.Proof.Gen.ReferenceIdeal
public import proofs.«01_k».proof.Proof.Gen.Pre_ids_in_vocab
public import Idealize.ShloMosaic.Lib.ReduceAll
public import Idealize.ShloMosaic.Lib.WordCmp
public import Idealize.ShloMosaic.Lib.ValueIdx

@[expose] public section

noncomputable section

namespace Cert.Proof.Take

open Cert.ReferenceIdeal Cert.ReferenceIdeal.Gen Cert.Proof.Look
open Idealize.ShloMosaic Idealize.ShloMosaic.ValueIdx Idealize.SL.Sem

variable {F : FTy → Type} [FloatOps F]

/-! ## The precondition -/

/-- A word that compares at least 0 and below 32, both as signed words, is below 32. -/
theorem word_lt {v : BitVec 32} (h : IntOp.andi (IntOp.cmpi .sge v 0#32) (IntOp.cmpi .slt v 32#32) = 1#1) : v.toNat < 32 := by
  obtain ⟨h1, h2⟩ := IntOp.andi_eq_one.1 h
  simp only [IntOp.cmpi] at h1 h2
  have e1 : (0#32).sle v = true := by
    cases hb : (0#32).sle v
    · rw [hb] at h1; exact absurd h1 (by decide)
    · rfl
  have e2 : v.slt 32#32 = true := by
    cases hb : v.slt 32#32
    · rw [hb] at h2; exact absurd h2 (by decide)
    · rfl
  rw [BitVec.sle_eq_decide, decide_eq_true_eq] at e1
  rw [BitVec.slt_eq_decide, decide_eq_true_eq] at e2
  simp only [BitVec.toInt_eq_toNat_cond, BitVec.toNat_ofNat, Nat.reducePow, Nat.reduceMod] at e1 e2
  omega

/-- The precondition, all ones, says of every row number that it is below 32. -/
theorem ids_lt (ids : IVec S4096x200 32) (tab : Vec F S32x8 .f32)
    (h : Cert.Pre_ids_in_vocab.fn (F := F) ids tab = fun _ => 1#1) (x : S4096x200.Idx) : (ids x).toNat < 32 := by
  haveI : Subsingleton Cert.Pre_ids_in_vocab.S_.Idx := ⟨fun a b => funext fun k => k.elim0⟩
  exact word_lt (Host.reduce_andi_all _ _ _ _ _ (congrFun h ix0) x)

/-! ## jnp.take -/

/-- Where the row number of a result's element stands, among the row numbers and among the gather's start indices; and the
    table's element in row `r % 32` and the column of a result's element. -/
def idOf (y : S4096x200x8.Idx) : S4096x200.Idx := ix2 (n0 := 4096) (n1 := 200) (y 0) (y 1)
def startOf (y : S4096x200x8.Idx) : S4096x200x1.Idx := ix3 (n0 := 4096) (n1 := 200) (n2 := 1) (y 0) (y 1) 0
def cellOf (r : ℕ) (y : S4096x200x8.Idx) : S32x8.Idx := ix2 (n0 := 32) (n1 := 8) ⟨r % 32, Nat.mod_lt _ (by decide)⟩ (y 2)

/-- The table's rows at the row numbers. -/
def taken (tab : Vec F S32x8 .f32) (ids : IVec S4096x200 32) : Vec F S4096x200x8 .f32 := fun y =>
  tab (cellOf (ids (idOf y)).toNat y)

/-- The row numbers after jnp.take's wrapping: a negative one has 32 added. -/
abbrev wrapped (ids : IVec S4096x200 32) : IVec S4096x200 32 :=
  select (cmpi .slt ids (broadcastInDim S4096x200 ![] bcast_S_S4096x200 (constantI S_ 32 0#32)))
    (addi ids (broadcastInDim S4096x200 ![] bcast_S_S4096x200 (constantI S_ 32 32#32))) ids
/-- The same with a last axis of extent one. -/
abbrev starts (ids : IVec S4096x200 32) : IVec S4096x200x1 32 :=
  broadcastInDim S4096x200x1 ![0, 1] bcast_S4096x200_S4096x200x1_0_1 ids
/-- Which row numbers name a row. -/
abbrev valid (st : IVec S4096x200x1 32) : IVec S4096x200 1 :=
  Host.reduce IntOp.andi
    (andi (cmpi .sge st (broadcastInDim S4096x200x1 ![] bcast_S_S4096x200x1 (constantI S_ 32 0#32)))
      (cmpi .sle st (broadcastInDim S4096x200x1 ![0, 1, 2] bcast_S1x1x1_S4096x200x1_0_1_2
        (broadcastInDim S1x1x1 ![2] bcast_S1_S1x1x1_2 (constantI S1 32 31#32)))))
    (constantI S_ 1 1#1) reducesTo_S4096x200x1_S4096x200_d2 h_S_
/-- jnp.take, as the reference's program computes it. -/
abbrev takes (tab : Vec F S32x8 .f32) (ids : IVec S4096x200 32) : Vec F S4096x200x8 .f32 :=
  select (broadcastInDim S4096x200x8 ![0, 1] bcast_S4096x200_S4096x200x8_0_1 (valid (starts (wrapped ids))))
    (Host.gather gather_S32x8_S4096x200x1_S4096x200x8_2_0_n_n_0_2_18 tab (starts (wrapped ids)))
    (broadcastInDim S4096x200x8 ![] bcast_S_S4096x200x8 (constant S_ .f32 0x7FC00000#32))

/-- A word below 32 is its own value as a signed word. -/
theorem toInt_small {v : BitVec 32} (h : v.toNat < 32) : v.toInt = v.toNat := by
  rw [BitVec.toInt_eq_toNat_cond, if_pos (by omega)]

theorem slt_zero {v : BitVec 32} (h : v.toNat < 32) : IntOp.cmpi .slt v 0#32 = 0#1 := by
  rw [IntOp.cmpi, BitVec.slt_eq_decide, toInt_small h, decide_eq_false (by simp)]; rfl
theorem sge_zero {v : BitVec 32} (h : v.toNat < 32) : IntOp.cmpi .sge v 0#32 = 1#1 := by
  rw [IntOp.cmpi, BitVec.sle_eq_decide, toInt_small h, decide_eq_true (by simp)]; rfl
theorem sle_last {v : BitVec 32} (h : v.toNat < 32) : IntOp.cmpi .sle v 31#32 = 1#1 := by
  rw [IntOp.cmpi, BitVec.sle_eq_decide, toInt_small h, decide_eq_true (by
    rw [show (31#32 : BitVec 32).toInt = 31 by decide]; omega)]; rfl

/-- Row numbers below 32 are not wrapped. -/
theorem wrapped_eq (ids : IVec S4096x200 32) (h : ∀ x, (ids x).toNat < 32) : wrapped ids = ids := by
  funext x
  show Scalar.select (IntOp.cmpi .slt (ids x) 0#32) _ (ids x) = ids x
  rw [slt_zero (h x)]; rfl

/-- A start index is a row number, and the one at a result's element is that element's. -/
theorem starts_lt (ids : IVec S4096x200 32) (h : ∀ x, (ids x).toNat < 32) (y : S4096x200x1.Idx) : (starts ids y).toNat < 32 := h _
theorem starts_at (ids : IVec S4096x200 32) (y : S4096x200x8.Idx) : starts ids (startOf y) = ids (idOf y) := by
  refine congrArg ids (funext fun a => ?_)
  match a with
  | ⟨0, _⟩ => rfl
  | ⟨1, _⟩ => rfl

/-- Row numbers below 32 all name a row. -/
theorem valid_eq (st : IVec S4096x200x1 32) (h : ∀ y, (st y).toNat < 32) (x : S4096x200.Idx) : valid st x = 1#1 := by
  refine Host.reduce_andi_one _ _ _ _ _ rfl fun y => ?_
  show IntOp.andi (IntOp.cmpi .sge (st y) 0#32) (IntOp.cmpi .sle (st y) 31#32) = 1#1
  rw [sge_zero (h y), sle_last (h y)]; decide

/-- The gather reads, at start indices below 32, the row that the start index names. -/
theorem gather_at (tab : Vec F S32x8 .f32) (st : IVec S4096x200x1 32) (h : ∀ y, (st y).toNat < 32) (y : S4096x200x8.Idx) :
    Host.gather gather_S32x8_S4096x200x1_S4096x200x8_2_0_n_n_0_2_18 tab st y
      = tab (cellOf (st (startOf y)).toNat y) := by
  unfold Host.gather
  refine congrArg tab (funext fun a => Fin.ext ?_)
  match a with
  | ⟨0, _⟩ =>
    have hs : GatherDims.siIdx gather_S32x8_S4096x200x1_S4096x200x8_2_0_n_n_0_2_18 y ⟨0, Nat.one_pos⟩ = startOf y := by
      funext b
      match b with
      | ⟨0, _⟩ => exact Fin.ext rfl
      | ⟨1, _⟩ => exact Fin.ext rfl
      | ⟨2, _⟩ => exact Fin.ext rfl
    have hlt := h (startOf y)
    show min (st (GatherDims.siIdx gather_S32x8_S4096x200x1_S4096x200x8_2_0_n_n_0_2_18 y ⟨0, Nat.one_pos⟩)).toInt.toNat 31 + 0 + 0
      = (st (startOf y)).toNat % 32
    rw [hs, toInt_small hlt, Int.toNat_natCast]; omega
  | ⟨1, _⟩ =>
    show 0 + 0 + (y 2).val = (y 2).val
    omega

/-- jnp.take of row numbers below 32 is the table's rows at them. -/
theorem takes_eq (tab : Vec F S32x8 .f32) (ids : IVec S4096x200 32) (h : ∀ x, (ids x).toNat < 32) : takes tab ids = taken tab ids := by
  unfold takes
  rw [wrapped_eq ids h]
  funext y
  rw [select_apply, gather_at tab _ (starts_lt ids h), starts_at]
  unfold broadcastInDim
  rw [valid_eq _ (starts_lt ids h)]
  rfl

/-! ## The flat lookup is the same array -/

/-- The flat lookup of a flattened table at flattened row numbers, at the result's shape, is the table's rows at them. -/
theorem look_eq (tab : Vec F S32x8 .f32) (ids : IVec S4096x200 32) (h : ∀ x, (ids x).toNat < 32)
    (ht : S32x8.ShapeCasts ⟨1, ![256]⟩) (hi : S4096x200.ShapeCasts ⟨1, ![819200]⟩)
    (ho : (⟨1, ![6553600]⟩ : Shape).ShapeCasts S4096x200x8) :
    shapeCast S4096x200x8 (look 819200 6553600 (shapeCast ⟨1, ![256]⟩ tab ht) (shapeCast ⟨1, ![819200]⟩ ids hi)) ho = taken tab ids := by
  funext y
  have h0 : (y 0).val < 4096 := (y 0).isLt
  have h1 : (y 1).val < 200 := (y 1).isLt
  have h2 : (y 2).val < 8 := (y 2).isLt
  unfold look taken shapeCast
  -- where the result's element lies among the flat words
  generalize hz : Shape.reshapeEquiv ho y = z
  have ez : (z 0).val = ((y 0).val * 200 + (y 1).val) * 8 + (y 2).val := by
    have e := Shape.rowMajor_reshapeEquiv ho y
    rw [hz, Shape.rowMajor_val_one, Shape.rowMajor_val_three] at e
    simpa using e
  -- the row number that stands for it
  have ei : Shape.reshapeEquiv hi (at1 819200 ((z 0).val / 8)) = idOf y := by
    refine Shape.reshapeEquiv_eq_of_rowMajor hi ?_
    rw [Shape.rowMajor_val_one, Shape.rowMajor_val_two, at1_val, ez]
    show (y 0).val * 200 + (y 1).val = _
    omega
  have hlt := h (idOf y)
  dsimp only
  rw [ei]
  refine congrArg tab (Shape.reshapeEquiv_eq_of_rowMajor ht ?_)
  rw [Shape.rowMajor_val_one, Shape.rowMajor_val_two, at1_val, ez]
  show (ids (idOf y)).toNat % 32 * 8 + (y 2).val = _
  omega

end Cert.Proof.Take

end
-- ==== Proof.lean ====
/-
  The proof of `Cert.Claim`. The kernel's run (Proof/Bits/Main.lean at the bit-exact instance, Proof/Ideal/Main.lean at the
  ideal one) leaves the arguments as they were, every semaphore at zero and the result at the flat lookup, reshaped; the
  reference's run leaves jnp.take's printed operations; under the precondition both are the table's rows at the row
  numbers (Proof/Take.lean).
-/
module

public import proofs.«01_k».proof.Defs
public import proofs.«01_k».proof.Proof.Bits.Main
public import proofs.«01_k».proof.Proof.Ideal.Main
public import proofs.«01_k».proof.Proof.Take
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_ids_in_vocab
public import Idealize.ShloMosaic.Lib.Quiescent
public import Idealize.ShloMosaic.Adequacy
public import Idealize.ShloMosaic.Init

@[expose] public section

noncomputable section

namespace Cert.Proof

open Idealize.ShloMosaic Idealize.SL.Sem

/-- The precondition gives what the kernel's proof asks of the launch memory: every row number below 32. -/
theorem ok_bits (m : (ℓ : Loc Cert.Kernel.nD Cert.Kernel.τ Cert.Kernel.sig) → Buf (Elt Bits) ℓ)
    (h : Cert.Pre_Kernel (hPre_ids_in_vocab := Cert.Pre_ids_in_vocab.Gen.facts) m) : Bits.PreOK (F := Idealize.ShloMosaic.Bits) m :=
  fun d _ => Take.ids_lt _ _ (h d) _

theorem ok_ideal (m : (ℓ : Loc Cert.KernelIdeal.nD Cert.KernelIdeal.τ Cert.KernelIdeal.sig) → Buf (Elt Ideal) ℓ)
    (h : Cert.Pre_KernelIdeal (hPre_ids_in_vocab := Cert.Pre_ids_in_vocab.Gen.facts) m) : Ideal.PreOK (F := Idealize.ShloMosaic.Ideal) m :=
  fun d _ => Take.ids_lt _ _ (h d) _

/-- The kernel terminates without fault, its arguments unchanged and every semaphore at zero. -/
theorem frame_kernel : Cert.quiescent_Kernel (hKernel := Cert.Kernel.Gen.facts) (hPre_ids_in_vocab := Cert.Pre_ids_in_vocab.Gen.facts) := by
  intro m g hpre
  exact (θ_run Cert.Kernel.defs _ _).mono (fun _ h => ⟨fun c => ⟨(h.1 c).1, (h.1 c).2.1⟩, h.2⟩)
    (Bits.run_main (F := Idealize.ShloMosaic.Bits) m g (ok_bits m hpre))

/-- So does the kernel over the extended reals. -/
theorem frame_kernelIdeal :
    Cert.quiescent_KernelIdeal (hKernelIdeal := Cert.KernelIdeal.Gen.facts) (hPre_ids_in_vocab := Cert.Pre_ids_in_vocab.Gen.facts) := by
  intro m g hpre
  exact (θ_run Cert.KernelIdeal.defs _ _).mono (fun _ h => ⟨fun c => ⟨(h.1 c).1, (h.1 c).2.1⟩, h.2⟩)
    (Ideal.run_main (F := Idealize.ShloMosaic.Ideal) m g (ok_ideal m hpre))

/-- So does the reference, which has no semaphore; it needs no precondition. -/
theorem frame_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Idealize.ShloMosaic.Ideal) m g)

/-- In particular under the kernel's precondition. -/
theorem frame_reference_pre :
    Cert.quiescent_ReferenceIdeal_pre_ids_in_vocab (hReferenceIdeal := Cert.ReferenceIdeal.Gen.facts)
      (hPre_ids_in_vocab := Cert.Pre_ids_in_vocab.Gen.facts) :=
  fun m g _ => frame_reference m g trivial

/-- Over the extended reals the kernel and the reference end with the same result: the table's rows at the row numbers. -/
theorem value :
    Cert.algebraic_KernelIdeal_ReferenceIdeal (hKernelIdeal := Cert.KernelIdeal.Gen.facts) (hReferenceIdeal := Cert.ReferenceIdeal.Gen.facts)
      (hPre_ids_in_vocab := Cert.Pre_ids_in_vocab.Gen.facts) := by
  intro m g m' g' hpre hargs
  have hlt : ∀ (c : Dev Cert.KernelIdeal.nD) (x : Cert.ReferenceIdeal.S4096x200.Idx), ((m ((c.tc : Thread Cert.KernelIdeal.nD Cert.KernelIdeal.τ).loc Cert.KernelIdeal.main_arg0) : IVec Cert.ReferenceIdeal.S4096x200 32) x).toNat < 32 :=
    fun c x => Take.ids_lt _ _ (hpre c) x
  refine ⟨fun c => Take.taken (F := Idealize.ShloMosaic.Ideal) (m ((c.tc : Thread Cert.KernelIdeal.nD Cert.KernelIdeal.τ).loc Cert.KernelIdeal.main_arg1))
    (m ((c.tc : Thread Cert.KernelIdeal.nD Cert.KernelIdeal.τ).loc Cert.KernelIdeal.main_arg0)), ?_, ?_⟩
  · refine (θ_run Cert.KernelIdeal.defs _ _).mono (fun _ h c => ⟨(h.1 c).2.2.trans ?_, (h.1 c).1, (h.1 c).2.1⟩)
      (Ideal.run_main (F := Idealize.ShloMosaic.Ideal) m g (ok_ideal m hpre))
    exact Take.look_eq _ _ (hlt c) _ _ _
  · refine (θ_run Cert.ReferenceIdeal.defs _ _).mono (fun _ h c => ⟨(h c).1.trans ?_, (h c).2⟩)
      (Cert.ReferenceIdeal.Value.run (F := Idealize.ShloMosaic.Ideal) m' g')
    rw [(hargs c).1, (hargs c).2]
    exact Take.takes_eq _ _ (hlt c)

theorem claim : Cert.Claim :=
  ⟨Cert.Kernel.Gen.facts, Cert.KernelIdeal.Gen.facts, Cert.ReferenceIdeal.Gen.facts, Cert.Pre_ids_in_vocab.Gen.facts,
    frame_kernel, frame_kernelIdeal, frame_reference, frame_reference_pre, trivial, value⟩

end Cert.Proof

end
